-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree_matrices [hPre_tree_matrices : Cert.Pre_tree_matrices.Facts] (m : (ℓ : Loc Cert.KernelIdeal.nD Cert.KernelIdeal.τ Cert.KernelIdeal.sig) → Buf (Elt Ideal) ℓ) : Prop :=
  ∀ c : Dev Cert.KernelIdeal.nD,
    (Cert.Pre_tree_matrices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree_matrices [hPre_tree_matrices : Cert.Pre_tree_matrices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree_matrices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tree_matrices [hKernelIdeal : Cert.KernelIdeal.Facts] [hPre_tree_matrices : Cert.Pre_tree_matrices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree_matrices m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tree_matrices [hReferenceIdeal : Cert.ReferenceIdeal.Facts] [hPre_tree_matrices : Cert.Pre_tree_matrices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree_matrices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tree_matrices [hKernelIdeal : Cert.KernelIdeal.Facts] [hReferenceIdeal : Cert.ReferenceIdeal.Facts] [hPre_tree_matrices : Cert.Pre_tree_matrices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree_matrices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tree_matrices : Cert.Pre_tree_matrices.Facts),
    quiescent_Kernel (hKernel := hKernel)
    ∧ quiescent_KernelIdeal (hKernelIdeal := hKernelIdeal)
    ∧ quiescent_KernelIdeal_pre_tree_matrices (hKernelIdeal := hKernelIdeal) (hPre_tree_matrices := hPre_tree_matrices)
    ∧ quiescent_ReferenceIdeal (hReferenceIdeal := hReferenceIdeal)
    ∧ quiescent_ReferenceIdeal_pre_tree_matrices (hReferenceIdeal := hReferenceIdeal) (hPre_tree_matrices := hPre_tree_matrices)
    ∧ preserves_Kernel_KernelIdeal
    ∧ algebraic_KernelIdeal_ReferenceIdeal_pre_tree_matrices (hKernelIdeal := hKernelIdeal) (hReferenceIdeal := hReferenceIdeal) (hPre_tree_matrices := hPre_tree_matrices)
-- ==== Pre_tree_matrices.lean ====
abbrev S4096x1024 : Shape := ⟨2, ![4096, 1024]⟩
abbrev S960 : Shape := ⟨1, ![960]⟩
abbrev S1024x64x16 : Shape := ⟨3, ![1024, 64, 16]⟩
abbrev S960x256 : Shape := ⟨2, ![960, 256]⟩
abbrev S1024x960 : Shape := ⟨2, ![1024, 960]⟩
abbrev S1024x256 : Shape := ⟨2, ![1024, 256]⟩
abbrev S_ : Shape := ⟨0, ![]⟩

class Facts : Prop where
  bcast_S_S960x256 : S_.BroadcastsInDim S960x256 (![] : Fin 0 → Fin S960x256.rank)
  natLt_1_32 : 1 < 32
  bcast_S_S1024x960 : S_.BroadcastsInDim S1024x960 (![] : Fin 0 → Fin S1024x960.rank)
  reducesTo_S960x256_S_d0_1 : S960x256.ReducesTo [0, 1] S_
  h_S_ : 0 < S_.numel
  reducesTo_S1024x960_S_d0_1 : S1024x960.ReducesTo [0, 1] S_

variable [Facts]

def fn_where {F : FTy → Type} [FloatOps F] (arg0 : IVec S960x256 1) (arg1 : FVec F S_ .f32) (arg2 : FVec F S_ .f32) : FVec F S960x256 .f32 :=
  let v0 : FVec F S960x256 .f32 := broadcastInDim S960x256 ![] bcast_S_S960x256 arg1
  let v1 : FVec F S960x256 .f32 := broadcastInDim S960x256 ![] bcast_S_S960x256 arg2
  let v2 : FVec F S960x256 .f32 := select arg0 v0 v1
  v2

def fn_where_0 {F : FTy → Type} [FloatOps F] (arg0 : IVec S1024x960 1) (arg1 : FVec F S_ .f32) (arg2 : FVec F S_ .f32) : FVec F S1024x960 .f32 :=
  let v0 : FVec F S1024x960 .f32 := broadcastInDim S1024x960 ![] bcast_S_S1024x960 arg1
  let v1 : FVec F S1024x960 .f32 := broadcastInDim S1024x960 ![] bcast_S_S1024x960 arg2
  let v2 : FVec F S1024x960 .f32 := select arg0 v0 v1
  v2

def fn_where_1 {F : FTy → Type} [FloatOps F] (arg0 : IVec S1024x960 1) (arg1 : FVec F S1024x960 .f32) (arg2 : FVec F S_ .f32) : FVec F S1024x960 .f32 :=
  let v0 : FVec F S1024x960 .f32 := broadcastInDim S1024x960 ![] bcast_S_S1024x960 arg2
  let v1 : FVec F S1024x960 .f32 := select arg0 arg1 v0
  v1

def fn_part4 {F : FTy → Type} [FloatOps F] (main_arg3 : FVec F S960x256 .f32) (main_arg4 : FVec F S1024x960 .f32) (main_v21 : FVec F S960x256 .f32) (main_v52 : IVec S1024x960 1) (main_v70 : IVec S1024x960 32) (main_c_22 : IVec S_ 32) : IVec S_ 1 :=
  let main_v71 : IVec S1024x960 32 := broadcastInDim S1024x960 ![] bcast_S_S1024x960 main_c_22
  let main_v72 : IVec S1024x960 1 := cmpi .eq main_v70 main_v71
  let main_cst_23 : FVec F S_ .f32 := constant S_ .f32 0x3F800000#32
  let main_cst_24 : FVec F S_ .f32 := constant S_ .f32 0xBF800000#32
  let main_v73 : FVec F S1024x960 .f32 := fn_where_0 (F := F) main_v72 main_cst_23 main_cst_24
  let main_cst_25 : FVec F S_ .f32 := constant S_ .f32 0x00000000#32
  let main_v74 : FVec F S1024x960 .f32 := fn_where_1 (F := F) main_v52 main_v73 main_cst_25
  let main_v75 : FVec F S960x256 .f32 := id main_v21
  let main_v76 : IVec S960x256 1 := cmpf .oeq main_arg3 main_v75
  let main_c_26 : IVec S_ 1 := constantI S_ 1 1#1
  let main_v77 : IVec S_ 1 := (fun x v => Host.reduce IntOp.andi x v reducesTo_S960x256_S_d0_1 h_S_) main_v76 main_c_26
  let main_v78 : FVec F S1024x960 .f32 := id main_v74
  let main_v79 : IVec S1024x960 1 := cmpf .oeq main_arg4 main_v78
  let main_c_27 : IVec S_ 1 := constantI S_ 1 1#1
  let main_v80 : IVec S_ 1 := (fun x v => Host.reduce IntOp.andi x v reducesTo_S1024x960_S_d0_1 h_S_) main_v79 main_c_27
  let main_v81 : IVec S_ 1 := andi main_v77 main_v80
  main_v81

def fn_part3 {F : FTy → Type} [FloatOps F] (main_arg3 : FVec F S960x256 .f32) (main_arg4 : FVec F S1024x960 .f32) (main_v21 : FVec F S960x256 .f32) (main_v25 : IVec S1024x960 32) (main_v27 : IVec S1024x960 32) (main_v52 : IVec S1024x960 1) (main_c_16 : IVec S_ 32) : IVec S_ 1 :=
  let main_v53 : IVec S1024x960 32 := broadcastInDim S1024x960 ![] bcast_S_S1024x960 main_c_16
  let main_v54 : IVec S1024x960 32 := addi main_v25 main_v53
  let main_c_17 : IVec S_ 32 := constantI S_ 32 1#32
  let main_v55 : IVec S1024x960 32 := broadcastInDim S1024x960 ![] bcast_S_S1024x960 main_c_17
  let main_v56 : IVec S1024x960 1 := cmpi .sge main_v27 main_v55
  let main_v57 : IVec S1024x960 32 := (extui 32 · natLt_1_32) main_v56
  let main_c_18 : IVec S_ 32 := constantI S_ 32 3#32
  let main_v58 : IVec S1024x960 32 := broadcastInDim S1024x960 ![] bcast_S_S1024x960 main_c_18
  let main_v59 : IVec S1024x960 1 := cmpi .sge main_v27 main_v58
  let main_v60 : IVec S1024x960 32 := (extui 32 · natLt_1_32) main_v59
  let main_v61 : IVec S1024x960 32 := addi main_v57 main_v60
  let main_c_19 : IVec S_ 32 := constantI S_ 32 7#32
  let main_v62 : IVec S1024x960 32 := broadcastInDim S1024x960 ![] bcast_S_S1024x960 main_c_19
  let main_v63 : IVec S1024x960 1 := cmpi .sge main_v27 main_v62
  let main_v64 : IVec S1024x960 32 := (extui 32 · natLt_1_32) main_v63
  let main_v65 : IVec S1024x960 32 := addi main_v61 main_v64
  let main_c_20 : IVec S_ 32 := constantI S_ 32 3#32
  let main_v66 : IVec S1024x960 32 := broadcastInDim S1024x960 ![] bcast_S_S1024x960 main_c_20
  let main_v67 : IVec S1024x960 32 := subi main_v66 main_v65
  let main_v68 : IVec S1024x960 32 := Host.shrsi main_v54 main_v67
  let main_c_21 : IVec S_ 32 := constantI S_ 32 1#32
  let main_v69 : IVec S1024x960 32 := broadcastInDim S1024x960 ![] bcast_S_S1024x960 main_c_21
  let main_v70 : IVec S1024x960 32 := andi main_v68 main_v69
  let main_c_22 : IVec S_ 32 := constantI S_ 32 1#32
  fn_part4 (F := F) main_arg3 main_arg4 main_v21 main_v52 main_v70 main_c_22

def fn_part2 {F : FTy → Type} [FloatOps F] (main_arg3 : FVec F S960x256 .f32) (main_arg4 : FVec F S1024x960 .f32) (main_v21 : FVec F S960x256 .f32) (main_v25 : IVec S1024x960 32) (main_v27 : IVec S1024x960 32) (main_v32 : IVec S1024x960 1) (main_v34 : IVec S1024x960 32) : IVec S_ 1 :=
  let main_c_11 : IVec S_ 32 := constantI S_ 32 16#32
  let main_v35 : IVec S1024x960 32 := broadcastInDim S1024x960 ![] bcast_S_S1024x960 main_c_11
  let main_v36 : IVec S1024x960 32 := addi main_v25 main_v35
  let main_c_12 : IVec S_ 32 := constantI S_ 32 1#32
  let main_v37 : IVec S1024x960 32 := broadcastInDim S1024x960 ![] bcast_S_S1024x960 main_c_12
  let main_v38 : IVec S1024x960 1 := cmpi .sge main_v27 main_v37
  let main_v39 : IVec S1024x960 32 := (extui 32 · natLt_1_32) main_v38
  let main_c_13 : IVec S_ 32 := constantI S_ 32 3#32
  let main_v40 : IVec S1024x960 32 := broadcastInDim S1024x960 ![] bcast_S_S1024x960 main_c_13
  let main_v41 : IVec S1024x960 1 := cmpi .sge main_v27 main_v40
  let main_v42 : IVec S1024x960 32 := (extui 32 · natLt_1_32) main_v41
  let main_v43 : IVec S1024x960 32 := addi main_v39 main_v42
  let main_c_14 : IVec S_ 32 := constantI S_ 32 7#32
  let main_v44 : IVec S1024x960 32 := broadcastInDim S1024x960 ![] bcast_S_S1024x960 main_c_14
  let main_v45 : IVec S1024x960 1 := cmpi .sge main_v27 main_v44
  let main_v46 : IVec S1024x960 32 := (extui 32 · natLt_1_32) main_v45
  let main_v47 : IVec S1024x960 32 := addi main_v43 main_v46
  let main_c_15 : IVec S_ 32 := constantI S_ 32 4#32
  let main_v48 : IVec S1024x960 32 := broadcastInDim S1024x960 ![] bcast_S_S1024x960 main_c_15
  let main_v49 : IVec S1024x960 32 := subi main_v48 main_v47
  let main_v50 : IVec S1024x960 32 := Host.shrsi main_v36 main_v49
  let main_v51 : IVec S1024x960 1 := cmpi .eq main_v34 main_v50
  let main_v52 : IVec S1024x960 1 := andi main_v32 main_v51
  let main_c_16 : IVec S_ 32 := constantI S_ 32 16#32
  fn_part3 (F := F) main_arg3 main_arg4 main_v21 main_v25 main_v27 main_v52 main_c_16

def fn_part1 {F : FTy → Type} [FloatOps F] (main_arg3 : FVec F S960x256 .f32) (main_arg4 : FVec F S1024x960 .f32) (main_v1 : IVec S960x256 32) (main_v5 : IVec S960x256 32) (main_v14 : IVec S960x256 32) (main_v17 : IVec S960x256 32) : IVec S_ 1 :=
  let main_v18 : IVec S960x256 32 := addi main_v14 main_v17
  let main_v19 : IVec S960x256 32 := addi main_v5 main_v18
  let main_v20 : IVec S960x256 1 := cmpi .eq main_v1 main_v19
  let main_cst : FVec F S_ .f32 := constant S_ .f32 0x3F800000#32
  let main_cst_5 : FVec F S_ .f32 := constant S_ .f32 0x00000000#32
  let main_v21 : FVec F S960x256 .f32 := fn_where (F := F) main_v20 main_cst main_cst_5
  let main_v22 : IVec S1024x960 32 := iotaInDim S1024x960 32 0
  let main_v23 : IVec S1024x960 32 := iotaInDim S1024x960 32 1
  let main_c_6 : IVec S_ 32 := constantI S_ 32 16#32
  let main_v24 : IVec S1024x960 32 := broadcastInDim S1024x960 ![] bcast_S_S1024x960 main_c_6
  let main_v25 : IVec S1024x960 32 := Host.remsi main_v22 main_v24
  let main_c_7 : IVec S_ 32 := constantI S_ 32 15#32
  let main_v26 : IVec S1024x960 32 := broadcastInDim S1024x960 ![] bcast_S_S1024x960 main_c_7
  let main_v27 : IVec S1024x960 32 := Host.remsi main_v23 main_v26
  let main_c_8 : IVec S_ 32 := constantI S_ 32 16#32
  let main_v28 : IVec S1024x960 32 := broadcastInDim S1024x960 ![] bcast_S_S1024x960 main_c_8
  let main_v29 : IVec S1024x960 32 := Host.divsi main_v22 main_v28
  let main_c_9 : IVec S_ 32 := constantI S_ 32 15#32
  let main_v30 : IVec S1024x960 32 := broadcastInDim S1024x960 ![] bcast_S_S1024x960 main_c_9
  let main_v31 : IVec S1024x960 32 := Host.divsi main_v23 main_v30
  let main_v32 : IVec S1024x960 1 := cmpi .eq main_v29 main_v31
  let main_c_10 : IVec S_ 32 := constantI S_ 32 1#32
  let main_v33 : IVec S1024x960 32 := broadcastInDim S1024x960 ![] bcast_S_S1024x960 main_c_10
  let main_v34 : IVec S1024x960 32 := addi main_v27 main_v33
  fn_part2 (F := F) main_arg3 main_arg4 main_v21 main_v25 main_v27 main_v32 main_v34

def fn {F : FTy → Type} [FloatOps F] (main_arg0 : FVec F S4096x1024 .f32) (main_arg1 : FVec F S960 .f32) (main_arg2 : FVec F S1024x64x16 .f32) (main_arg3 : FVec F S960x256 .f32) (main_arg4 : FVec F S1024x960 .f32) (main_arg5 : FVec F S1024x256 .f32) : IVec S_ 1 :=
  let main_v0 : IVec S960x256 32 := iotaInDim S960x256 32 0
  let main_v1 : IVec S960x256 32 := iotaInDim S960x256 32 1
  let main_c : IVec S_ 32 := constantI S_ 32 15#32
  let main_v2 : IVec S960x256 32 := broadcastInDim S960x256 ![] bcast_S_S960x256 main_c
  let main_v3 : IVec S960x256 32 := Host.divsi main_v0 main_v2
  let main_c_0 : IVec S_ 32 := constantI S_ 32 4#32
  let main_v4 : IVec S960x256 32 := broadcastInDim S960x256 ![] bcast_S_S960x256 main_c_0
  let main_v5 : IVec S960x256 32 := muli main_v3 main_v4
  let main_c_1 : IVec S_ 32 := constantI S_ 32 15#32
  let main_v6 : IVec S960x256 32 := broadcastInDim S960x256 ![] bcast_S_S960x256 main_c_1
  let main_v7 : IVec S960x256 32 := Host.remsi main_v0 main_v6
  let main_c_2 : IVec S_ 32 := constantI S_ 32 1#32
  let main_v8 : IVec S960x256 32 := broadcastInDim S960x256 ![] bcast_S_S960x256 main_c_2
  let main_v9 : IVec S960x256 1 := cmpi .sge main_v7 main_v8
  let main_v10 : IVec S960x256 32 := (extui 32 · natLt_1_32) main_v9
  let main_c_3 : IVec S_ 32 := constantI S_ 32 3#32
  let main_v11 : IVec S960x256 32 := broadcastInDim S960x256 ![] bcast_S_S960x256 main_c_3
  let main_v12 : IVec S960x256 1 := cmpi .sge main_v7 main_v11
  let main_v13 : IVec S960x256 32 := (extui 32 · natLt_1_32) main_v12
  let main_v14 : IVec S960x256 32 := addi main_v10 main_v13
  let main_c_4 : IVec S_ 32 := constantI S_ 32 7#32
  let main_v15 : IVec S960x256 32 := broadcastInDim S960x256 ![] bcast_S_S960x256 main_c_4
  let main_v16 : IVec S960x256 1 := cmpi .sge main_v7 main_v15
  let main_v17 : IVec S960x256 32 := (extui 32 · natLt_1_32) main_v16
  fn_part1 (F := F) main_arg3 main_arg4 main_v1 main_v5 main_v14 main_v17
-- ==== Kernel.lean ====
abbrev S4096x1024 : Shape := ⟨2, ![4096, 1024]⟩
abbrev S960 : Shape := ⟨1, ![960]⟩
abbrev S1024x64x16 : Shape := ⟨3, ![1024, 64, 16]⟩
abbrev S960x256 : Shape := ⟨2, ![960, 256]⟩
abbrev S1024x960 : Shape := ⟨2, ![1024, 960]⟩
abbrev S1024x256 : Shape := ⟨2, ![1024, 256]⟩
abbrev S256x256 : Shape := ⟨2, ![256, 256]⟩
abbrev S64x1024 : Shape := ⟨2, ![64, 1024]⟩
abbrev S1024 : Shape := ⟨1, ![1024]⟩
abbrev S8x1024 : Shape := ⟨2, ![8, 1024]⟩
abbrev S64x15 : Shape := ⟨2, ![64, 15]⟩
abbrev S15x64 : Shape := ⟨2, ![15, 64]⟩
abbrev S15x128 : Shape := ⟨2, ![15, 128]⟩
abbrev S_ : Shape := ⟨0, ![]⟩
abbrev S16x128 : Shape := ⟨2, ![16, 128]⟩
abbrev S1024x1024 : Shape := ⟨2, ![1024, 1024]⟩
abbrev S512x1024 : Shape := ⟨2, ![512, 1024]⟩
abbrev S512x256 : Shape := ⟨2, ![512, 256]⟩
abbrev S512x64 : Shape := ⟨2, ![512, 64]⟩
abbrev S512x128 : Shape := ⟨2, ![512, 128]⟩
abbrev S1x128 : Shape := ⟨2, ![1, 128]⟩
abbrev S128 : Shape := ⟨1, ![128]⟩
abbrev S1x1024 : Shape := ⟨2, ![1, 1024]⟩

abbrev nBuf : Space → Nat
  | .hbm => 18
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S960, .f32⟩
  | .hbm, ⟨2, _⟩ => ⟨S1024x64x16, .f32⟩
  | .hbm, ⟨3, _⟩ => ⟨S960x256, .f32⟩
  | .hbm, ⟨4, _⟩ => ⟨S1024x960, .f32⟩
  | .hbm, ⟨5, _⟩ => ⟨S1024x256, .f32⟩
  | .hbm, ⟨6, _⟩ => ⟨S256x256, .bf16⟩
  | .hbm, ⟨7, _⟩ => ⟨S64x1024, .bf16⟩
  | .hbm, ⟨8, _⟩ => ⟨S1024, .f32⟩
  | .hbm, ⟨9, _⟩ => ⟨S8x1024, .f32⟩
  | .hbm, ⟨10, _⟩ => ⟨S64x15, .f32⟩
  | .hbm, ⟨11, _⟩ => ⟨S15x64, .f32⟩
  | .hbm, ⟨12, _⟩ => ⟨S15x128, .f32⟩
  | .hbm, ⟨13, _⟩ => ⟨S_, .i32⟩
  | .hbm, ⟨14, _⟩ => ⟨S_, .f32⟩
  | .hbm, ⟨15, _⟩ => ⟨S16x128, .f32⟩
  | .hbm, ⟨16, _⟩ => ⟨S1024x1024, .f32⟩
  | .hbm, ⟨17, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S16x128, .f32⟩
  | .local _ .vmem, ⟨4, _⟩ => ⟨S256x256, .bf16⟩
  | .local _ .vmem, ⟨5, _⟩ => ⟨S64x1024, .bf16⟩
  | .local _ .vmem, ⟨6, _⟩ => ⟨S8x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x256, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x1024 : Shape := ⟨2, ![4096, 1024]⟩
abbrev S960 : Shape := ⟨1, ![960]⟩
abbrev S1024x64x16 : Shape := ⟨3, ![1024, 64, 16]⟩
abbrev S960x256 : Shape := ⟨2, ![960, 256]⟩
abbrev S1024x960 : Shape := ⟨2, ![1024, 960]⟩
abbrev S1024x256 : Shape := ⟨2, ![1024, 256]⟩
abbrev S4096x256 : Shape := ⟨2, ![4096, 256]⟩
abbrev S256x960 : Shape := ⟨2, ![256, 960]⟩
abbrev S4096x960 : Shape := ⟨2, ![4096, 960]⟩
abbrev S1x960 : Shape := ⟨2, ![1, 960]⟩
abbrev S960x1024 : Shape := ⟨2, ![960, 1024]⟩
abbrev S4096x64x16 : Shape := ⟨3, ![4096, 64, 16]⟩
abbrev S_ : Shape := ⟨0, ![]⟩
abbrev S4096x64 : Shape := ⟨2, ![4096, 64]⟩
abbrev S4096x64x1 : Shape := ⟨3, ![4096, 64, 1]⟩
abbrev S1x1x16 : Shape := ⟨3, ![1, 1, 16]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S960, .f32⟩
  | .hbm, ⟨2, _⟩ => ⟨S1024x64x16, .f32⟩
  | .hbm, ⟨3, _⟩ => ⟨S960x256, .f32⟩
  | .hbm, ⟨4, _⟩ => ⟨S1024x960, .f32⟩
  | .hbm, ⟨5, _⟩ => ⟨S1024x256, .f32⟩
  | .hbm, ⟨6, _⟩ => ⟨S4096x256, .f32⟩
  | .hbm, ⟨7, _⟩ => ⟨S256x960, .f32⟩
  | .hbm, ⟨8, _⟩ => ⟨S4096x960, .f32⟩
  | .hbm, ⟨9, _⟩ => ⟨S1x960, .f32⟩
  | .hbm, ⟨10, _⟩ => ⟨S4096x960, .f32⟩
  | .hbm, ⟨11, _⟩ => ⟨S4096x960, .f32⟩
  | .hbm, ⟨12, _⟩ => ⟨S4096x960, .f32⟩
  | .hbm, ⟨13, _⟩ => ⟨S960x1024, .f32⟩
  | .hbm, ⟨14, _⟩ => ⟨S4096x1024, .f32⟩
  | .hbm, ⟨15, _⟩ => ⟨S4096x64x16, .f32⟩
  | .hbm, ⟨16, _⟩ => ⟨S4096x64x16, .i32⟩
  | .hbm, ⟨17, _⟩ => ⟨S_, .f32⟩
  | .hbm, ⟨18, _⟩ => ⟨S_, .i32⟩
  | .hbm, ⟨19, _⟩ => ⟨S4096x64, .f32⟩
  | .hbm, ⟨20, _⟩ => ⟨S4096x64, .i32⟩
  | .hbm, ⟨21, _⟩ => ⟨S4096x64x1, .i32⟩
  | .hbm, ⟨22, _⟩ => ⟨S1x1x16, .i32⟩
  | .hbm, ⟨23, _⟩ => ⟨S4096x64x16, .i32⟩
  | .hbm, ⟨24, _⟩ => ⟨S4096x64x16, .i32⟩
  | .hbm, ⟨25, _⟩ => ⟨S4096x64x16, .i1⟩
  | .hbm, ⟨26, _⟩ => ⟨S4096x64x16, .f32⟩
  | .hbm, ⟨27, _⟩ => ⟨S4096x64x16, .f32⟩
  | .hbm, ⟨28, _⟩ => ⟨S4096x64x16, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v10 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Proof.RefRun.lean ====
/-
  The run of the reference program: a straight line of host operations, whose result array is the composed term
  `refOut` of the six argument arrays.
-/
module

public import proofs.«01_k».proof.Proof.Gen.ReferenceIdeal
public import Idealize.ShloMosaic.Lib.StableHlo.RunHlo
public import Idealize.ShloMosaic.Lib.Claim
public import Idealize.ShloMosaic.Lib.Quiescent
public import Idealize.ShloMosaic.Lib.Tactic.CleanTypes

@[expose] public section

set_option maxRecDepth 16384

/-!
# The reference's run

The reference's result as a function of its six arguments, and its run: it ends with that array and keeps its arguments.
-/

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The path sums of every row, tree and leaf: the decisions `tanh (I A Sᵀ - T)` times the bit matrix. -/
def refPaths (x : FVec F S4096x1024 .f32) (t : FVec F S960 .f32) (s : FVec F S960x256 .f32)
    (b : FVec F S1024x960 .f32) (a : FVec F S1024x256 .f32) : FVec F S4096x64x16 .f32 :=
  let v0 := Host.dotGeneral dot_S4096x1024_S1024x256_S4096x256_1_0_0_1_n_n none x a
  let v2 := Host.dotGeneral dot_S4096x256_S256x960_S4096x960_1_0_0_1_n_n none v0
    (transpose S256x960 [1, 0] s transposes_S960x256_S256x960_1_0)
  let v4 := broadcastInDim S4096x960 ![0, 1] bcast_S1x960_S4096x960_0_1
    (broadcastInDim S1x960 ![1] bcast_S960_S1x960_1 t)
  let v8 := Host.dotGeneral dot_S4096x960_S960x1024_S4096x1024_1_0_0_1_n_n none (Host.tanh (subf v2 v4))
    (transpose S960x1024 [1, 0] b transposes_S1024x960_S960x1024_1_0)
  shapeCast S4096x64x16 v8 shapeCasts_S4096x1024_S4096x64x16

/-- The first leaf of greatest path sum, per row and tree. -/
def refArg (p : FVec F S4096x64x16 .f32) : IVec S4096x64 32 := fun j =>
  (Host.argReduce reducer_argmax_f32_i32 p (iotaInDim S4096x64x16 32 2) (constant S_ .f32 0xFF800000#32)
    (constantI S_ 32 0#32) reducesTo_S4096x64x16_S4096x64_d2 h_S_ j).2

/-- The one-hot rows of a leaf choice. -/
def refHot (k : IVec S4096x64 32) : FVec F S4096x64x16 .f32 :=
  uitofp .f32 (cmpi .eq
    (broadcastInDim S4096x64x16 ![0, 1, 2] bcast_S4096x64x1_S4096x64x16_0_1_2
      (broadcastInDim S4096x64x1 ![0, 1] bcast_S4096x64_S4096x64x1_0_1 k))
    (broadcastInDim S4096x64x16 ![0, 1, 2] bcast_S1x1x16_S4096x64x16_0_1_2 (iotaInDim S1x1x16 32 2)))

/-- The reference's result as one term of its arguments. -/
def refOut (x : FVec F S4096x1024 .f32) (t : FVec F S960 .f32) (l : FVec F S1024x64x16 .f32) (s : FVec F S960x256 .f32)
    (b : FVec F S1024x960 .f32) (a : FVec F S1024x256 .f32) : FVec F S4096x1024 .f32 :=
  let p := refPaths x t s b a
  Host.dotGeneral dot_S4096x64x16_S1024x64x16_S4096x1024_12_12_0_0_n_n none
    (subf (addf (refHot (refArg p)) p) p) l

theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v14)
          = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 := by
  hlo_run
  rotate_left
  · exact sem_eq_zero_of_no_sems (by decide) _
  · intro c
    refine ⟨?_, trivial, trivial, trivial, trivial, trivial, trivial⟩
    simp only [TRef.ofBuf_toBuf]
    clean_types
    rfl

end Cert.Proof.Ref

end
-- ==== Proof.Tree.lean ====
module
public import Mathlib.Data.EReal.Operations
public import Mathlib.Algebra.BigOperators.Fin
public import Mathlib.Tactic.FinCases

@[expose] public section

/-!
# Decision trees of depth four

A tree has fifteen nodes, numbered from the root level by level (the children of node `i` are
`2 i + 1` and `2 i + 2`), and sixteen leaves. The way to leaf `k` is read off the bits of `k`, the
highest first: at a node on it a set bit adds the node's value and a clear bit subtracts it.
-/

noncomputable section

namespace Cert.Proof.Tree

/-- The level of a node. -/
def lev (i : ℕ) : ℕ := if i = 0 then 0 else if i < 3 then 1 else if i < 7 then 2 else 3

theorem lev_lt (i : ℕ) : lev i < 4 := by unfold lev; split_ifs <;> decide

/-- Node `i` is on the way to leaf `k`. -/
def onPath (k i : ℕ) : Prop := i + 1 = (k + 16) / 2 ^ (4 - lev i)

instance (k i : ℕ) : Decidable (onPath k i) := inferInstanceAs (Decidable (_ = _))

/-- The way to leaf `k` leaves level `lev i` by a set bit. -/
def goesUp (k i : ℕ) : Prop := (k + 16) / 2 ^ (3 - lev i) % 2 = 1

instance (k i : ℕ) : Decidable (goesUp k i) := inferInstanceAs (Decidable (_ = _))

/-- The coefficient of node `i` in the sum of leaf `k`. -/
def coef (k i : ℕ) : EReal := if onPath k i then (if goesUp k i then 1 else -1) else 0

/-- The sum of leaf `k`. -/
def leaf (d : Fin 15 → EReal) (k : Fin 16) : EReal := ∑ i : Fin 15, coef k.val i.val * d i

/-- Leaf `k` is the first one reaching the greatest value of `b`. -/
def IsFirst (b : Fin 16 → EReal) (k : Fin 16) : Prop := ∀ j, b j < b k ∨ (b j = b k ∧ k ≤ j)

theorem IsFirst.unique {b : Fin 16 → EReal} {k k' : Fin 16} (h : IsFirst b k) (h' : IsFirst b k') : k = k' := by
  rcases h k' with h1 | ⟨h1, h2⟩ <;> rcases h' k with h3 | ⟨h3, h4⟩
  · exact absurd (h1.trans h3) (lt_irrefl _)
  · exact absurd h1 (h3 ▸ lt_irrefl _)
  · exact absurd h3 (h1 ▸ lt_irrefl _)
  · exact le_antisymm h2 h4

/-- The coefficients are finite. -/
theorem coef_real (k i : ℕ) : ∃ r : ℝ, coef k i = (r : EReal) := by
  unfold coef
  split_ifs
  · exact ⟨1, by simp⟩
  · exact ⟨-1, by simp⟩
  · exact ⟨0, by simp⟩

/-- The leaf sums of finite node values are finite. -/
theorem leaf_real (d : Fin 15 → EReal) (hd : ∀ i, ∃ r : ℝ, d i = (r : EReal)) (k : Fin 16) :
    ∃ r : ℝ, leaf d k = (r : EReal) := by
  refine Finset.sum_induction _ (fun x : EReal => ∃ r : ℝ, x = (r : EReal)) ?_ ⟨0, by simp⟩ fun i _ => ?_
  · rintro _ _ ⟨x, rfl⟩ ⟨y, rfl⟩
    exact ⟨x + y, (EReal.coe_add x y).symm⟩
  · obtain ⟨w, hw⟩ := coef_real k.val i.val
    obtain ⟨e, he⟩ := hd i
    exact ⟨w * e, by rw [hw, he, EReal.coe_mul]⟩

/-- Adding and taking away a finite value changes nothing. -/
theorem add_sub_real (x : EReal) {b : EReal} (hb : ∃ r : ℝ, b = (r : EReal)) : x + b - b = x := by
  obtain ⟨r, rfl⟩ := hb
  induction x with
  | bot => simp
  | top => simp
  | coe x => rw [← EReal.coe_add, ← EReal.coe_sub, add_sub_cancel_right]

/-- The four nodes on the way to each leaf, with their signs. -/
theorem leaf_eq (d : Fin 15 → EReal) (k : Fin 16) : leaf d k =
    (![-d 0 + -d 1 + -d 3 + -d 7, -d 0 + -d 1 + -d 3 + d 7, -d 0 + -d 1 + d 3 + -d 8, -d 0 + -d 1 + d 3 + d 8,
      -d 0 + d 1 + -d 4 + -d 9, -d 0 + d 1 + -d 4 + d 9, -d 0 + d 1 + d 4 + -d 10, -d 0 + d 1 + d 4 + d 10,
      d 0 + -d 2 + -d 5 + -d 11, d 0 + -d 2 + -d 5 + d 11, d 0 + -d 2 + d 5 + -d 12, d 0 + -d 2 + d 5 + d 12,
      d 0 + d 2 + -d 6 + -d 13, d 0 + d 2 + -d 6 + d 13, d 0 + d 2 + d 6 + -d 14, d 0 + d 2 + d 6 + d 14] : Fin 16 → EReal) k := by
  have hc (i j : ℕ) : coef i j = if onPath i j then (if goesUp i j then 1 else -1) else 0 := rfl
  simp only [leaf, Fin.sum_univ_succ, Finset.univ_eq_empty, Finset.sum_empty, hc]
  fin_cases k <;> simp [onPath, goesUp, lev, add_assoc, Fin.reduceSucc]

end Cert.Proof.Tree
-- ==== Proof.Forest.lean ====
module
public import proofs.«01_k».proof.Proof.Tree
public import Idealize.ShloMosaic.Lib.IdealHost

@[expose] public section

/-!
# The forest's answer

One row's values at the nodes of every tree, the leaf each tree picks, and the sum of the picked leaves' entries:
the function both programs compute, written over plain families of extended reals.
-/

noncomputable section

open Idealize.ShloMosaic

namespace Cert.Proof.Tree

/-- The first leaf reaching the greatest value. -/
def pick (b : Fin 16 → EReal) : Fin 16 := Classical.epsilon (IsFirst b)

theorem pick_eq {b : Fin 16 → EReal} {k : Fin 16} (h : IsFirst b k) : pick b = k :=
  IsFirst.unique (Classical.epsilon_spec (p := IsFirst b) ⟨k, h⟩) h

/-- The value of node `i` of tree `c`: the hyperbolic tangent of the projection at the node's level, less the
    node's threshold. -/
def nodeVal (x : Fin 1024 → EReal) (a : Fin 1024 → Fin 256 → EReal) (t : Fin 960 → EReal) (c : Fin 64) (i : Fin 15) : EReal :=
  Ideal.tanh ((∑ k : Fin 1024, x k * a k ⟨4 * c.val + lev i.val, by have := lev_lt i.val; omega⟩) - t ⟨15 * c.val + i.val, by omega⟩)

theorem tanh_real (z : EReal) : ∃ r : ℝ, Ideal.tanh z = (r : EReal) := by
  induction z with
  | bot => exact ⟨-1, rfl⟩
  | top => exact ⟨1, rfl⟩
  | coe r => exact ⟨Real.tanh r, rfl⟩

theorem paths_real (x : Fin 1024 → EReal) (a : Fin 1024 → Fin 256 → EReal) (t : Fin 960 → EReal) (c : Fin 64) (k : Fin 16) :
    ∃ r : ℝ, leaf (nodeVal x a t c) k = (r : EReal) :=
  leaf_real _ (fun _ => tanh_real _) k

/-- The picked leaves' entries, added up over the trees. -/
def answer (x : Fin 1024 → EReal) (a : Fin 1024 → Fin 256 → EReal) (t : Fin 960 → EReal) (l : Fin 64 → Fin 16 → EReal) : EReal :=
  ∑ c : Fin 64, l c (pick (leaf (nodeVal x a t c)))

end Cert.Proof.Tree
-- ==== Proof.ArgMax.lean ====
module
public import proofs.«01_k».proof.Proof.RefRun
public import proofs.«01_k».proof.Proof.Forest
public import Idealize.ShloMosaic.Lib.Pointwise
public import Idealize.ShloMosaic.Lib.IdealHost

@[expose] public section

set_option maxRecDepth 16384

/-!
# The reference's arg-max

A reduction step keeps the better of two pairs, so the fold ends in the best pair, in whatever order it runs.
-/

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Tree

/-! ## The arg-max -/

/-- The second pair is at least as good: a greater value, or the same value at an index no later. -/
def Beats (q r : EReal × BitVec 32) : Prop := q.1 < r.1 ∨ (q.1 = r.1 ∧ r.2.toInt ≤ q.2.toInt)

theorem Beats.refl (q : EReal × BitVec 32) : Beats q q := .inr ⟨rfl, le_rfl⟩

theorem Beats.trans {p q r : EReal × BitVec 32} (h : Beats p q) (h' : Beats q r) : Beats p r := by
  rcases h with h | ⟨h, g⟩ <;> rcases h' with h' | ⟨h', g'⟩
  · exact .inl (h.trans h')
  · exact .inl (h' ▸ h)
  · exact .inl (h ▸ h')
  · exact .inr ⟨h.trans h', g'.trans g⟩

/-- One step keeps one of its two pairs, and the kept one is at least as good as both. -/
theorem reducer_best (a b : EReal × BitVec 32) :
    (reducer_argmax_f32_i32 (F := Ideal) a b = a ∨ reducer_argmax_f32_i32 (F := Ideal) a b = b)
      ∧ Beats a (reducer_argmax_f32_i32 (F := Ideal) a b) ∧ Beats b (reducer_argmax_f32_i32 (F := Ideal) a b) := by
  obtain ⟨a1, a2⟩ := a
  obtain ⟨b1, b2⟩ := b
  rcases lt_trichotomy b1 a1 with h | h | h
  · have e : reducer_argmax_f32_i32 (F := Ideal) (a1, a2) (b1, b2) = (a1, a2) := by
      simp [reducer_argmax_f32_i32, Ideal.cmpf_def, Ideal.cmp, IntOp.ori, IntOp.andi, Scalar.select, h, h.ne']
    rw [e]
    exact ⟨.inl rfl, .refl _, .inl h⟩
  · subst h
    by_cases g : a2.slt b2
    · have e : reducer_argmax_f32_i32 (F := Ideal) (b1, a2) (b1, b2) = (b1, a2) := by
        simp [reducer_argmax_f32_i32, Ideal.cmpf_def, Ideal.cmp, IntOp.ori, IntOp.andi, IntOp.cmpi, Scalar.select, g]
      rw [e]
      refine ⟨.inl rfl, .refl _, .inr ⟨rfl, ?_⟩⟩
      have := BitVec.slt_iff_toInt_lt.mp g
      show a2.toInt ≤ b2.toInt
      omega
    · have e : reducer_argmax_f32_i32 (F := Ideal) (b1, a2) (b1, b2) = (b1, b2) := by
        simp [reducer_argmax_f32_i32, Ideal.cmpf_def, Ideal.cmp, IntOp.ori, IntOp.andi, IntOp.cmpi, Scalar.select, g]
      rw [e]
      refine ⟨.inr rfl, .inr ⟨rfl, ?_⟩, .refl _⟩
      have : ¬ a2.toInt < b2.toInt := fun q => g (BitVec.slt_iff_toInt_lt.mpr q)
      show b2.toInt ≤ a2.toInt
      omega
  · have e : reducer_argmax_f32_i32 (F := Ideal) (a1, a2) (b1, b2) = (b1, b2) := by
      simp [reducer_argmax_f32_i32, Ideal.cmpf_def, Ideal.cmp, IntOp.ori, IntOp.andi, Scalar.select, h.not_gt, h.ne]
    rw [e]
    exact ⟨.inr rfl, .inl h, .refl _⟩

theorem fold_best (L : List (EReal × BitVec 32)) : ∀ acc : EReal × BitVec 32,
    L.foldl (reducer_argmax_f32_i32 (F := Ideal)) acc ∈ acc :: L
      ∧ ∀ q ∈ acc :: L, Beats q (L.foldl (reducer_argmax_f32_i32 (F := Ideal)) acc) := by
  induction L with
  | nil => exact fun acc => ⟨List.mem_singleton.mpr rfl, fun q hq => List.mem_singleton.mp hq ▸ .refl _⟩
  | cons b L ih =>
    intro acc
    obtain ⟨h1, h2⟩ := ih (reducer_argmax_f32_i32 (F := Ideal) acc b)
    obtain ⟨g1, g2, g3⟩ := reducer_best acc b
    have hr := h2 _ List.mem_cons_self
    rw [List.foldl_cons]
    refine ⟨?_, fun q hq => ?_⟩
    · rcases List.mem_cons.mp h1 with h | h
      · rw [h]
        rcases g1 with g | g <;> rw [g] <;> simp
      · simp [h]
    · rcases List.mem_cons.mp hq with rfl | hq
      · exact g2.trans hr
      · rcases List.mem_cons.mp hq with rfl | hq
        · exact g3.trans hr
        · exact h2 _ (List.mem_cons_of_mem _ hq)

/-- A reduction of the last of three axes is a fold over the entries along that axis, in some order. -/
theorem argReduce_list {n0 n1 n2 : ℕ} {t u : Shape} (f : EReal × BitVec 32 → EReal × BitVec 32 → EReal × BitVec 32)
    (x : FVec Ideal ⟨3, ![n0, n1, n2]⟩ .f32) (y : (⟨3, ![n0, n1, n2]⟩ : Shape).Idx → BitVec 32) (ix : u.Idx → EReal)
    (iy : u.Idx → BitVec 32) (h : (⟨3, ![n0, n1, n2]⟩ : Shape).ReducesTo [2] t) (hu : 0 < u.numel) (j : t.Idx) :
    ∃ L : List (EReal × BitVec 32),
      Host.argReduce (F := Ideal) (φ := .f32) f x y ix iy h hu j = L.foldl f (ix (Shape.Idx.first hu), iy (Shape.Idx.first hu))
      ∧ ∀ q, q ∈ L ↔ ∃ i, h.drop i = j ∧ q = (x i, y i) := by
  refine ⟨Host.argReduceFiber x y h j, ?_, fun q => ?_⟩
  · rw [Ideal.argReduce_eq_reduce2, Host.reduce2_eq_foldl_fiber]
  · unfold Host.argReduceFiber
    simp only [List.mem_map, List.mem_filter, List.mem_finRange, true_and, decide_eq_true_eq]
    constructor
    · rintro ⟨n, hn, rfl⟩
      exact ⟨_, hn, rfl⟩
    · rintro ⟨i, hi, rfl⟩
      exact ⟨(⟨3, ![n0, n1, n2]⟩ : Shape).rowMajor i, by simpa using hi, by simp⟩

end Cert.Proof.Ref
-- ==== Proof.RefAt.lean ====
module
public import proofs.«01_k».proof.Proof.ArgMax
public import proofs.«01_k».proof.Proof.Forest
public import Idealize.ShloMosaic.Lib.Pointwise
public import Idealize.ShloMosaic.Lib.IdealHost

@[expose] public section

set_option maxRecDepth 16384

/-!
# The reference at an index

Under the two readings of the selector and bit matrices, every entry of the reference's result is the forest's answer.
-/

noncomputable section

namespace Cert.Proof.Ref

open Cert.ReferenceIdeal Cert.ReferenceIdeal.Gen
open Idealize.ShloMosaic Idealize.ShloMosaic.TcCoe Idealize.ShloMosaic.StableHlo Idealize.SL.Sem
open Cert.Proof.Tree

theorem refArg_unfold {F : FTy → Type} [FloatOps F] (p : FVec F S4096x64x16 .f32) : refArg p = fun j =>
    (Host.argReduce reducer_argmax_f32_i32 p (iotaInDim S4096x64x16 32 2) (constant S_ .f32 0xFF800000#32)
      (constantI S_ 32 0#32) reducesTo_S4096x64x16_S4096x64_d2 h_S_ j).2 := rfl

theorem refArg_snd {F : FTy → Type} [FloatOps F] (p : FVec F S4096x64x16 .f32) (j : S4096x64.Idx) : refArg p j =
    (Host.argReduce reducer_argmax_f32_i32 p (iotaInDim S4096x64x16 32 2) (constant S_ .f32 0xFF800000#32)
      (constantI S_ 32 0#32) reducesTo_S4096x64x16_S4096x64_d2 h_S_ j).2 := congrFun (refArg_unfold p) j

theorem drop_iff (n : Fin 4096) (c : Fin 64) (i : S4096x64x16.Idx) :
    (reducesTo_S4096x64x16_S4096x64_d2 : S4096x64x16.ReducesTo [2] S4096x64).drop i = ix2 n c ↔ ∃ k : Fin 16, ix3 n c k = i :=
  Shape.ReducesTo.fiber_r3_a2 _ _ i

theorem toInt_small : ∀ k : Fin 16, (BitVec.ofNat 32 k.val).toInt = k.val := by decide

theorem iota_at (n : Fin 4096) (c : Fin 64) (k : Fin 16) : iotaInDim S4096x64x16 32 2 (ix3 n c k) = BitVec.ofNat 32 k.val := by
  pointwise []

theorem floor_eq (i : S_.Idx) : (constant S_ .f32 0xFF800000#32 : FVec Ideal S_ .f32) i = (⊥ : EReal) := by
  show Ideal.ofBits .f32 0xFF800000#32 = ⊥
  simp [Ideal.ofBits, Ideal.ieee]

theorem refArg_list (p : FVec Ideal S4096x64x16 .f32) (n : Fin 4096) (c : Fin 64) :
    ∃ L : List (EReal × BitVec 32), ∃ w : BitVec 32,
      refArg p (ix2 n c) = (L.foldl (reducer_argmax_f32_i32 (F := Ideal)) (⊥, w)).2
      ∧ ∀ q, q ∈ L ↔ ∃ k : Fin 16, q = (p (ix3 n c k), BitVec.ofNat 32 k.val) := by
  obtain ⟨L, hL, hm⟩ := argReduce_list (reducer_argmax_f32_i32 (F := Ideal)) p (iotaInDim S4096x64x16 32 2)
    (constant S_ .f32 0xFF800000#32 : FVec Ideal S_ .f32) (constantI S_ 32 0#32) reducesTo_S4096x64x16_S4096x64_d2 h_S_ (ix2 n c)
  rw [floor_eq] at hL
  refine ⟨L, constantI S_ 32 0#32 (Shape.Idx.first h_S_), (refArg_snd p _).trans (congrArg Prod.snd hL), fun q => ?_⟩
  rw [hm]
  constructor
  · rintro ⟨i, hi, rfl⟩
    obtain ⟨k, rfl⟩ := (drop_iff n c i).mp hi
    exact ⟨k, by rw [iota_at]⟩
  · rintro ⟨k, rfl⟩
    exact ⟨ix3 n c k, (drop_iff n c _).mpr ⟨k, rfl⟩, by rw [iota_at]⟩

theorem refArg_at (p : FVec Ideal S4096x64x16 .f32) (n : Fin 4096) (c : Fin 64)
    (hp : ∀ k : Fin 16, ∃ r : ℝ, p (ix3 n c k) = (r : EReal)) :
    ∃ k : Fin 16, IsFirst (fun k => p (ix3 n c k)) k ∧ refArg p (ix2 n c) = BitVec.ofNat 32 k.val := by
  obtain ⟨L, w, hL, hm⟩ := refArg_list p n c
  obtain ⟨h1, h2⟩ := fold_best L (⊥, w)
  have key : ∃ k : Fin 16, L.foldl (reducer_argmax_f32_i32 (F := Ideal)) (⊥, w) = (p (ix3 n c k), BitVec.ofNat 32 k.val) := by
    rcases List.mem_cons.mp h1 with h | h
    · exfalso
      have := h2 _ (List.mem_cons_of_mem _ ((hm _).mpr ⟨0, rfl⟩))
      rw [h] at this
      obtain ⟨r, hr⟩ := hp 0
      rcases this with g | ⟨g, -⟩
      · exact absurd g not_lt_bot
      · exact EReal.coe_ne_bot r (hr.symm.trans g)
    · exact (hm _).mp h
  obtain ⟨k, hk⟩ := key
  refine ⟨k, fun j => ?_, by rw [hL, hk]⟩
  have := h2 _ (List.mem_cons_of_mem _ ((hm _).mpr ⟨j, rfl⟩))
  rw [hk] at this
  rcases this with g | ⟨g, g'⟩
  · exact .inl g
  · refine .inr ⟨g, ?_⟩
    change (BitVec.ofNat 32 k.val).toInt ≤ (BitVec.ofNat 32 j.val).toInt at g'
    rw [toInt_small, toInt_small] at g'
    exact Fin.le_def.mpr (by omega)

/-! ## The one-hot rows -/

theorem refHot_at (k : IVec S4096x64 32) (n : Fin 4096) (c : Fin 64) (g : Fin 16) (hg : k (ix2 n c) = BitVec.ofNat 32 g.val) (j : Fin 16) :
    (refHot k : FVec Ideal S4096x64x16 .f32) (ix3 n c j) = (if j = g then 1 else 0 : EReal) := by
  pointwise [refHot]
  rw [hg]
  have h : ∀ a b : Fin 16, IntOp.cmpi .eq (BitVec.ofNat 32 a.val) (BitVec.ofNat 32 b.val) = if b = a then 1#1 else 0#1 := by decide +kernel
  rw [h]
  split
  · show (((1#1 : BitVec 1).toNat : ℝ) : EReal) = 1
    simp
  · show (((0#1 : BitVec 1).toNat : ℝ) : EReal) = 0
    simp

/-! ## The path sums -/

section
variable (x : FVec Ideal S4096x1024 .f32) (t : FVec Ideal S960 .f32) (l : FVec Ideal S1024x64x16 .f32) (s : FVec Ideal S960x256 .f32)
  (b : FVec Ideal S1024x960 .f32) (a : FVec Ideal S1024x256 .f32)
  (hs : ∀ (r : Fin 960) (j : Fin 256), s (ix2 r j) = (if j.val = 4 * (r.val / 15) + lev (r.val % 15) then 1 else 0 : EReal))
  (hb : ∀ (q : Fin 1024) (r : Fin 960), b (ix2 q r) = (if q.val / 16 = r.val / 15 then coef (q.val % 16) (r.val % 15) else 0 : EReal))
include hs hb

theorem refPaths_at (n : Fin 4096) (c : Fin 64) (k : Fin 16) :
    refPaths x t s b a (ix3 n c k)
      = leaf (nodeVal (fun k => x (ix2 n k)) (fun k j => a (ix2 k j)) (fun q => t (ix1 q)) c) k := by
  pointwise [refPaths]
  have hsum (r : Fin 960) : (∑ j : Fin 256, (∑ k : Fin 1024, x (ix2 n k) * a (ix2 k j)) * s (ix2 r j) : EReal)
      = ∑ k : Fin 1024, x (ix2 n k) * a (ix2 k ⟨4 * (r.val / 15) + lev (r.val % 15), by have := lev_lt (r.val % 15); omega⟩) := by
    rw [Finset.sum_eq_single (⟨4 * (r.val / 15) + lev (r.val % 15), by have := lev_lt (r.val % 15); omega⟩ : Fin 256)]
    · rw [hs, if_pos rfl, mul_one]
    · intro j _ hj
      rw [hs, if_neg (fun e => hj (Fin.ext e)), mul_zero]
    · exact fun h => absurd (Finset.mem_univ _) h
  simp only [hsum]
  rw [← (finProdFinEquiv (m := 64) (n := 15)).sum_comp, Fintype.sum_prod_type, Finset.sum_eq_single c]
  · unfold leaf nodeVal
    refine Finset.sum_congr rfl fun i _ => ?_
    have e : (finProdFinEquiv (c, i) : Fin 960) = ⟨15 * c.val + i.val, by omega⟩ :=
      Fin.ext (show i.val + 15 * c.val = 15 * c.val + i.val from add_comm _ _)
    have e1 : (15 * c.val + i.val) / 15 = c.val := by omega
    have e2 : (15 * c.val + i.val) % 15 = i.val := by omega
    have e3 : (c.val * 16 + k.val) / 16 = c.val := by omega
    have e4 : (c.val * 16 + k.val) % 16 = k.val := by omega
    rw [e, hb, mul_comm]
    simp only [e1, e2, e3, e4, if_true]
  · intro c' _ hc
    refine Finset.sum_eq_zero fun i _ => ?_
    have e : (finProdFinEquiv (c', i) : Fin 960) = ⟨15 * c'.val + i.val, by omega⟩ :=
      Fin.ext (show i.val + 15 * c'.val = 15 * c'.val + i.val from add_comm _ _)
    have e1 : (15 * c'.val + i.val) / 15 = c'.val := by omega
    have e3 : (c.val * 16 + k.val) / 16 = c.val := by omega
    have hne : ¬ (c.val * 16 + k.val) / 16 = (15 * c'.val + i.val) / 15 := by
      rw [e1, e3]
      exact fun h => hc (Fin.ext h.symm)
    rw [e, hb, if_neg hne, mul_zero]
  · exact fun h => absurd (Finset.mem_univ _) h

theorem refOut_at (n : Fin 4096) (o : Fin 1024) :
    refOut x t l s b a (ix2 n o)
      = answer (fun k => x (ix2 n k)) (fun k j => a (ix2 k j)) (fun q => t (ix1 q)) (fun c k => l (ix3 o c k)) := by
  pointwise [refOut]
  unfold answer
  refine Finset.sum_congr rfl fun c _ => ?_
  have hp := refPaths_at x t s b a hs hb n c
  obtain ⟨g, hg, hv⟩ := refArg_at (refPaths x t s b a) n c (fun k => hp k ▸ paths_real _ _ _ _ _)
  have hg' : pick (leaf (nodeVal (fun k => x (ix2 n k)) (fun k j => a (ix2 k j)) (fun q => t (ix1 q)) c)) = g :=
    pick_eq (by simpa only [hp] using hg)
  rw [hg', Finset.sum_eq_single g]
  · rw [refHot_at _ n c g hv, if_pos rfl, hp]
    rw [add_sub_real _ (paths_real _ _ _ _ _), one_mul]
  · intro k _ hk
    rw [refHot_at _ n c g hv, if_neg hk, hp]
    rw [add_sub_real _ (paths_real _ _ _ _ _), zero_mul]
  · exact fun h => absurd (Finset.mem_univ _) h

end

end Cert.Proof.Ref
-- ==== Proof.Block.lean ====
module
public import proofs.«01_k».proof.Proof.Gen.KernelIdeal.Frame
public import Idealize.ShloMosaic.Lib.Pipeline.ValueKit
public import Idealize.ShloMosaic.Lib.Pipeline.ReadBack

@[expose] public section

set_option maxRecDepth 16384

/-!
# What one grid point writes

The kernel's vectors over half a block are 512 × 128: lane `l` is the tree `l % 64` of the row
`r + 512 * (l / 64)` of the block. This file names those vectors (the fifteen node values, the
sixteen leaf sums, the running maximum with its code) and says that what a grid point stores is
built from them.
-/

noncomputable section

open Idealize.ShloMosaic Idealize.ShloMosaic.TcCoe Idealize.SL.Sem
open Idealize.ShloMosaic.Pipeline (Dat)

namespace Cert.Proof.Block
open Cert.KernelIdeal Cert.KernelIdeal.Gen

/-- A vector over half a block. -/
abbrev Half := FVec Ideal S512x128 .f32

/-- The fifteen node values, from a block of rows, the regrouped projection and the thresholds. -/
def node (x : Vec Ideal S1024x1024 .f32) (a : Vec Ideal S1024x256 .bf16) (T : Vec Ideal S16x128 .f32) : Fin 15 → Half :=
  ![k0_pay11 x a a (View.ld T (Rect.unit ![0, 0] ![1, 128] inb_S16x128_S1x128_0_0)),
    k0_pay13 (k0_pay12 x a a (View.ld T (Rect.unit ![1, 0] ![1, 128] inb_S16x128_S1x128_1_0))),
    k0_pay14 (k0_pay8 x a a) (View.ld T (Rect.unit ![2, 0] ![1, 128] inb_S16x128_S1x128_2_0)),
    k0_pay15 (k0_pay9 x a a) (View.ld T (Rect.unit ![3, 0] ![1, 128] inb_S16x128_S1x128_3_0)),
    k0_pay16 (k0_pay9 x a a) (View.ld T (Rect.unit ![4, 0] ![1, 128] inb_S16x128_S1x128_4_0)),
    k0_pay17 (k0_pay9 x a a) (View.ld T (Rect.unit ![5, 0] ![1, 128] inb_S16x128_S1x128_5_0)),
    k0_pay18 (k0_pay9 x a a) (View.ld T (Rect.unit ![6, 0] ![1, 128] inb_S16x128_S1x128_6_0)),
    k0_pay20 (k0_pay19 (k0_pay10 x a a) (View.ld T (Rect.unit ![7, 0] ![1, 128] inb_S16x128_S1x128_7_0))),
    k0_pay21 (k0_pay10 x a a) (View.ld T (Rect.unit ![8, 0] ![1, 128] inb_S16x128_S1x128_8_0)),
    k0_pay22 (k0_pay10 x a a) (View.ld T (Rect.unit ![9, 0] ![1, 128] inb_S16x128_S1x128_9_0)),
    k0_pay23 (k0_pay10 x a a) (View.ld T (Rect.unit ![10, 0] ![1, 128] inb_S16x128_S1x128_10_0)),
    k0_pay24 (k0_pay10 x a a) (View.ld T (Rect.unit ![11, 0] ![1, 128] inb_S16x128_S1x128_11_0)),
    k0_pay25 (k0_pay10 x a a) (View.ld T (Rect.unit ![12, 0] ![1, 128] inb_S16x128_S1x128_12_0)),
    k0_pay27 (k0_pay26 (k0_pay10 x a a) (View.ld T (Rect.unit ![13, 0] ![1, 128] inb_S16x128_S1x128_13_0))),
    k0_pay28 (k0_pay10 x a a) (View.ld T (Rect.unit ![14, 0] ![1, 128] inb_S16x128_S1x128_14_0))]

/-- The sixteen leaf sums of the node values `d`. -/
def leaves (d : Fin 15 → Half) : Fin 16 → Half :=
  ![k0_pay42 (d 0) (d 1) (d 3) (d 7),
    k0_pay43 (d 0) (d 1) (d 3) (d 7),
    k0_pay44 (d 0) (d 1) (d 3) (d 8),
    k0_pay45 (d 0) (d 1) (d 3) (d 8),
    k0_pay46 (d 0) (d 1) (d 4) (d 9),
    k0_pay47 (d 9) (k0_pay36 (d 0) (d 1) (d 4)),
    k0_pay48 (d 10) (k0_pay37 (d 0) (d 1) (d 4)),
    k0_pay49 (d 10) (k0_pay37 (d 0) (d 1) (d 4)),
    k0_pay50 (d 11) (k0_pay38 (d 0) (d 2) (d 5)),
    k0_pay51 (d 11) (k0_pay38 (d 0) (d 2) (d 5)),
    k0_pay52 (d 12) (k0_pay39 (d 0) (d 2) (d 5)),
    k0_pay53 (d 12) (k0_pay39 (d 0) (d 2) (d 5)),
    k0_pay54 (d 13) (k0_pay40 (d 0) (d 2) (d 6)),
    k0_pay55 (d 13) (k0_pay40 (d 0) (d 2) (d 6)),
    k0_pay56 (d 14) (k0_pay41 (d 0) (d 2) (d 6)),
    k0_pay57 (d 14) (k0_pay41 (d 0) (d 2) (d 6))]

/-- The single-precision words of the numbers 0 to 15. -/
def codeWord : ℕ → BitVec 32
  | 0 => 0x00000000#32 | 1 => 0x3F800000#32 | 2 => 0x40000000#32 | 3 => 0x40400000#32
  | 4 => 0x40800000#32 | 5 => 0x40A00000#32 | 6 => 0x40C00000#32 | 7 => 0x40E00000#32
  | 8 => 0x41000000#32 | 9 => 0x41100000#32 | 10 => 0x41200000#32 | 11 => 0x41300000#32
  | 12 => 0x41400000#32 | 13 => 0x41500000#32 | 14 => 0x41600000#32 | _ => 0x41700000#32

/-- One step of the running maximum: a strictly greater sum replaces the best one, and its code the code. -/
def step (v : Half) (w : BitVec 32) (p : Half × Half) : Half × Half :=
  (select (cmpf .ogt v p.1) v p.1,
    select (cmpf .ogt v p.1) (broadcast S512x128 (Scalar.ofBits .f32 w : Ideal .f32)) p.2)

/-- The best sum among the leaves `0` to `k`, and the code of the first leaf reaching it. -/
def best (b : Fin 16 → Half) : (k : ℕ) → k < 16 → Half × Half
  | 0, h => (b ⟨0, h⟩, broadcast S512x128 (Scalar.ofBits .f32 (codeWord 0) : Ideal .f32))
  | k + 1, h => step (b ⟨k + 1, h⟩) (codeWord (k + 1)) (best b k (Nat.lt_of_succ_lt h))

/-- The code of the winning leaf, at every lane. -/
def codes (b : Fin 16 → Half) : FVec Ideal S512x128 .bf16 :=
  truncf .bf16 (best b 15 (by decide)).2 bitsLt_bf16_f32

/-- The indicator of a half's codes: its leaf columns spread over the 1024 (tree, leaf) pairs. -/
def hot (v : FVec Ideal S512x64 .bf16) (tile : Vec Ideal S64x1024 .bf16) (kk : Vec Ideal S1x1024 .f32) :
    FVec Ideal S512x1024 .bf16 :=
  truncf .bf16 (sitofp .f32 (extui 32 (cmpf .oeq
    (matmul (φ₂ := .bf16) dot_S512x64_S64x1024_S512x1024_1_0_0_1_n_n none v tile (constant S512x1024 .f32 0x00000000#32))
    (broadcastTo S512x1024 kk broadcasts_S1x1024_S512x1024)) natLt_1_32)) bitsLt_bf16_f32

/-- The first row of the leaf numbers. -/
abbrev kkRow (K : Vec Ideal S8x1024 .f32) : Vec Ideal S1x1024 .f32 :=
  View.ld K (Rect.unit ![0, 0] ![1, 1024] inb_S8x1024_S1x1024_0_0)

/-- The second eight leaves of the running maximum. -/
theorem pay73_eq (v8 v9 v10 v11 v12 v13 v14 v15 c7 : Half) (g7 : IVec S512x128 1) (m7 : Half) :
    k0_pay73 v8 v9 v10 v11 v12 v13 v14 v15 c7 g7 m7
      = truncf .bf16 (step v15 0x41700000#32 (step v14 0x41600000#32 (step v13 0x41500000#32 (step v12 0x41400000#32
          (step v11 0x41300000#32 (step v10 0x41200000#32 (step v9 0x41100000#32 (step v8 0x41000000#32
            (m7, select g7 (broadcast S512x128 (Scalar.ofBits .f32 0x40E00000#32 : Ideal .f32)) c7))))))))).2 bitsLt_bf16_f32 := rfl

/-- The first eight. -/
theorem pay72_eq (d9 d10 v5 v6 b0 b1 b2 b3 b4 : Half) :
    (k0_pay72 d9 d10 v5 v6 b0 b1 b2 b3 b4,
        select (k0_pay71 d9 d10 v5 v6 b0 b1 b2 b3 b4) (broadcast S512x128 (Scalar.ofBits .f32 0x40E00000#32 : Ideal .f32))
          (k0_pay70 d9 d10 v5 v6 b0 b1 b2 b3 b4))
      = step (k0_pay49 d10 v6) 0x40E00000#32 (step (k0_pay48 d10 v6) 0x40C00000#32 (step (k0_pay47 d9 v5) 0x40A00000#32
          (step b4 0x40800000#32 (step b3 0x40400000#32 (step b2 0x40000000#32 (step b1 0x3F800000#32
            (b0, broadcast S512x128 (Scalar.ofBits .f32 0x00000000#32 : Ideal .f32)))))))) := rfl

/-- The first half's indicator is `hot` of the codes' first 64 lanes. -/
theorem pay75_eq (v8 v9 v10 v11 v12 v13 v14 v15 c7 : Half) (g7 : IVec S512x128 1) (m7 : Half)
    (tile : Vec Ideal S64x1024 .bf16) (kk : Vec Ideal S1x1024 .f32) :
    k0_pay75 v8 v9 v10 v11 v12 v13 v14 v15 c7 g7 m7 tile kk
      = hot (extractStridedSlice S512x64 ![0, 0] (k0_pay73 v8 v9 v10 v11 v12 v13 v14 v15 c7 g7 m7) slices_S512x128_o0_0_S512x64) tile kk := rfl

/-- The second half's stored rows are `hot` of the last 64 lanes, against the table. -/
theorem pay2_eq (v8 v9 v10 v11 v12 v13 v14 v15 c7 : Half) (g7 : IVec S512x128 1) (m7 : Half)
    (tile : Vec Ideal S64x1024 .bf16) (kk : Vec Ideal S1x1024 .f32) (l : Vec Ideal S1024x1024 .bf16) :
    k0_pay2 (k0_pay74 v8 v9 v10 v11 v12 v13 v14 v15 c7 g7 m7) tile kk l
      = k0_pay1 (hot (extractStridedSlice S512x64 ![0, 64] (k0_pay73 v8 v9 v10 v11 v12 v13 v14 v15 c7 g7 m7) slices_S512x128_o0_64_S512x64) tile kk) l := rfl

theorem codes_eq (d0 d1 d2 d3 d4 d5 d6 d7 d8 d9 d10 d11 d12 d13 d14 : Half) :
    k0_pay73 (k0_pay50 d11 (k0_pay38 d0 d2 d5)) (k0_pay51 d11 (k0_pay38 d0 d2 d5)) (k0_pay52 d12 (k0_pay39 d0 d2 d5)) (k0_pay53 d12 (k0_pay39 d0 d2 d5))
      (k0_pay54 d13 (k0_pay40 d0 d2 d6)) (k0_pay55 d13 (k0_pay40 d0 d2 d6)) (k0_pay56 d14 (k0_pay41 d0 d2 d6)) (k0_pay57 d14 (k0_pay41 d0 d2 d6))
      (k0_pay70 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      (k0_pay71 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      (k0_pay72 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      = codes (leaves ![d0, d1, d2, d3, d4, d5, d6, d7, d8, d9, d10, d11, d12, d13, d14]) := by
  rw [pay73_eq, pay72_eq]
  rfl

/-- The rows of a block a point stores, first half: the indicator against the table. -/
def low (d : Fin 15 → Half) (tile : Vec Ideal S64x1024 .bf16) (K : Vec Ideal S8x1024 .f32) (l : Vec Ideal S1024x1024 .bf16) : FVec Ideal S512x1024 .f32 :=
  k0_pay1 (hot (extractStridedSlice S512x64 ![0, 0] (codes (leaves d)) slices_S512x128_o0_0_S512x64) tile (kkRow K)) l

/-- The second half. -/
def high (d : Fin 15 → Half) (tile : Vec Ideal S64x1024 .bf16) (K : Vec Ideal S8x1024 .f32) (l : Vec Ideal S1024x1024 .bf16) : FVec Ideal S512x1024 .f32 :=
  k0_pay1 (hot (extractStridedSlice S512x64 ![0, 64] (codes (leaves d)) slices_S512x128_o0_64_S512x64) tile (kkRow K)) l

theorem low_eq (d0 d1 d2 d3 d4 d5 d6 d7 d8 d9 d10 d11 d12 d13 d14 : Half) (tile : Vec Ideal S64x1024 .bf16) (kk : Vec Ideal S8x1024 .f32) (l : Vec Ideal S1024x1024 .bf16) :
    k0_pay1 (k0_pay75 (k0_pay50 d11 (k0_pay38 d0 d2 d5)) (k0_pay51 d11 (k0_pay38 d0 d2 d5)) (k0_pay52 d12 (k0_pay39 d0 d2 d5)) (k0_pay53 d12 (k0_pay39 d0 d2 d5))
      (k0_pay54 d13 (k0_pay40 d0 d2 d6)) (k0_pay55 d13 (k0_pay40 d0 d2 d6)) (k0_pay56 d14 (k0_pay41 d0 d2 d6)) (k0_pay57 d14 (k0_pay41 d0 d2 d6))
      (k0_pay70 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      (k0_pay71 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      (k0_pay72 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      tile (kkRow kk)) l
      = low ![d0, d1, d2, d3, d4, d5, d6, d7, d8, d9, d10, d11, d12, d13, d14] tile kk l := by
  rw [pay75_eq, codes_eq]
  rfl

theorem high_eq (d0 d1 d2 d3 d4 d5 d6 d7 d8 d9 d10 d11 d12 d13 d14 : Half) (tile : Vec Ideal S64x1024 .bf16) (kk : Vec Ideal S8x1024 .f32) (l : Vec Ideal S1024x1024 .bf16) :
    k0_pay2 (k0_pay74 (k0_pay50 d11 (k0_pay38 d0 d2 d5)) (k0_pay51 d11 (k0_pay38 d0 d2 d5)) (k0_pay52 d12 (k0_pay39 d0 d2 d5)) (k0_pay53 d12 (k0_pay39 d0 d2 d5))
      (k0_pay54 d13 (k0_pay40 d0 d2 d6)) (k0_pay55 d13 (k0_pay40 d0 d2 d6)) (k0_pay56 d14 (k0_pay41 d0 d2 d6)) (k0_pay57 d14 (k0_pay41 d0 d2 d6))
      (k0_pay70 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      (k0_pay71 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9))
      (k0_pay72 d9 d10 (k0_pay36 d0 d1 d4) (k0_pay37 d0 d1 d4)
        (k0_pay42 d0 d1 d3 d7) (k0_pay43 d0 d1 d3 d7) (k0_pay44 d0 d1 d3 d8) (k0_pay45 d0 d1 d3 d8) (k0_pay46 d0 d1 d4 d9)))
      tile (kkRow kk) l
      = high ![d0, d1, d2, d3, d4, d5, d6, d7, d8, d9, d10, d11, d12, d13, d14] tile kk l := by
  rw [pay2_eq, codes_eq]
  rfl

/-- The block a point stores: `high` over `low`. -/
def blockOf (d : Fin 15 → Half) (tile : Vec Ideal S64x1024 .bf16) (K : Vec Ideal S8x1024 .f32) (l : Vec Ideal S1024x1024 .bf16) : Vec Ideal S1024x1024 .f32 :=
  View.canon [⟨Rect.unit ![512, 0] ![512, 1024] inb_S1024x1024_S512x1024_512_0, high d tile K l⟩,
    ⟨Rect.unit ![0, 0] ![512, 1024] inb_S1024x1024_S512x1024_0_0, low d tile K l⟩]

variable (m : (ℓ : Loc nD τ sig) → Buf (Elt Ideal) ℓ)

/-- What the scratch of the regrouped projection holds after a point. -/
abbrev proj (c : Dev nD) (t : Fin cfg0.N) : Vec Ideal S1024x256 .bf16 := (outsAt0 m c t.val t.isLt).2.1

/-- What the scratch of the table holds after a point. -/
abbrev tab (c : Dev nD) (t : Fin cfg0.N) : Vec Ideal S1024x1024 .bf16 := (outsAt0 m c t.val t.isLt).2.2

theorem out_A (c : Dev nD) (t : Fin cfg0.N) (h0 : t.val % 4 = 0) :
    (outsAt0 m c t.val t.isLt).1
      = blockOf (node (iblk m c 0 t) (k0_pay3 (iblk m c 1 t) (iblk m c 3 t)) (iblk m c 2 t)) (iblk m c 4 t) (iblk m c 5 t) (k0_pay4 (iblk m c 6 t)) := by
  rw [outsAt0_A m c t h0]
  frame_out
  rw [low_eq, high_eq]
  rfl

theorem out_B (c : Dev nD) (t : Fin cfg0.N) (h0 : ¬t.val % 4 = 0) (s : Fin cfg0.N) (hs : s.val = t.val - 1) :
    (outsAt0 m c t.val t.isLt).1
      = blockOf (node (iblk m c 0 t) (proj m c s) (iblk m c 2 t)) (iblk m c 4 t) (iblk m c 5 t) (tab m c s) := by
  obtain ⟨s, hs'⟩ := s
  subst hs
  rw [outsAt0_B m c t h0]
  frame_out
  simp only [read_unread_whole]
  rw [low_eq, high_eq]
  rfl

theorem proj_A (c : Dev nD) (t : Fin cfg0.N) (h0 : t.val % 4 = 0) : proj m c t = k0_pay3 (iblk m c 1 t) (iblk m c 3 t) := by
  unfold proj
  rw [outsAt0_A m c t h0]
  frame_out

theorem tab_A (c : Dev nD) (t : Fin cfg0.N) (h0 : t.val % 4 = 0) : tab m c t = k0_pay4 (iblk m c 6 t) := by
  unfold tab
  rw [outsAt0_A m c t h0]
  frame_out

theorem proj_B (c : Dev nD) (t : Fin cfg0.N) (h0 : ¬t.val % 4 = 0) (s : Fin cfg0.N) (hs : s.val = t.val - 1) : proj m c t = proj m c s := by
  obtain ⟨s, hs'⟩ := s
  subst hs
  unfold proj
  rw [outsAt0_B m c t h0]
  rfl

theorem tab_B (c : Dev nD) (t : Fin cfg0.N) (h0 : ¬t.val % 4 = 0) (s : Fin cfg0.N) (hs : s.val = t.val - 1) : tab m c t = tab m c s := by
  obtain ⟨s, hs'⟩ := s
  subst hs
  unfold tab
  rw [outsAt0_B m c t h0]
  rfl

end Cert.Proof.Block
-- ==== Proof.At.lean ====
module
public import proofs.«01_k».proof.Proof.Block
public import proofs.«01_k».proof.Proof.Tree
public import Idealize.ShloMosaic.Lib.Pointwise
public import Idealize.ShloMosaic.Lib.IdealHost

@[expose] public section

set_option maxRecDepth 16384

/-!
# The block's vectors at an index
-/

noncomputable section

open Idealize.ShloMosaic Idealize.ShloMosaic.TcCoe Idealize.SL.Sem

namespace Cert.Proof.Block
open Cert.KernelIdeal Cert.KernelIdeal.Gen Cert.Proof.Tree

/-! ## Leaf sums and the running maximum -/

theorem leaves_at (d : Fin 15 → Half) (k : Fin 16) (r : Fin 512) (l : Fin 128) :
    leaves d k (ix2 r l) = leaf (fun i => d i (ix2 r l)) k := by
  rw [leaf_eq]
  fin_cases k
  all_goals
    simp only [leaves]
    pointwise [k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48, k0_pay49,
      k0_pay50, k0_pay51, k0_pay52, k0_pay53, k0_pay54, k0_pay55, k0_pay56, k0_pay57] <;>
    simp only [zero_sub]

theorem step_fst (v : Half) (w : BitVec 32) (p : Half × Half) (r : Fin 512) (l : Fin 128) :
    (step v w p).1 (ix2 r l) = if p.1 (ix2 r l) < v (ix2 r l) then v (ix2 r l) else p.1 (ix2 r l) := by
  pointwise [step]

theorem step_snd (v : Half) (w : BitVec 32) (p : Half × Half) (r : Fin 512) (l : Fin 128) :
    (step v w p).2 (ix2 r l) = if p.1 (ix2 r l) < v (ix2 r l) then Ideal.ofBits .f32 w else p.2 (ix2 r l) := by
  pointwise [step]

/-- The running maximum holds the first greatest sum among those it has passed, and that leaf's code. -/
theorem best_at (b : Fin 16 → Half) (r : Fin 512) (l : Fin 128) : ∀ (k : ℕ) (h : k < 16), ∃ i : Fin 16, i.val ≤ k
    ∧ (best b k h).1 (ix2 r l) = b i (ix2 r l) ∧ (best b k h).2 (ix2 r l) = Ideal.ofBits .f32 (codeWord i.val)
    ∧ ∀ j : Fin 16, j.val ≤ k → b j (ix2 r l) < b i (ix2 r l) ∨ (b j (ix2 r l) = b i (ix2 r l) ∧ i ≤ j)
  | 0, h => ⟨0, le_refl _, rfl, rfl, fun j hj => .inr (by
      have : j = 0 := Fin.ext (by simpa using hj)
      subst this
      exact ⟨rfl, le_refl _⟩)⟩
  | k + 1, h => by
    obtain ⟨i, hi, h1, h2, h3⟩ := best_at b r l k (Nat.lt_of_succ_lt h)
    simp only [best, step_fst, step_snd, h1, h2]
    by_cases hlt : b i (ix2 r l) < b ⟨k + 1, h⟩ (ix2 r l)
    · refine ⟨⟨k + 1, h⟩, le_refl _, by simp [hlt], by simp [hlt], fun j hj => ?_⟩
      by_cases hjk : j.val ≤ k
      · left
        rcases h3 j hjk with h4 | ⟨h4, -⟩
        · exact h4.trans hlt
        · exact h4 ▸ hlt
      · have : j = ⟨k + 1, h⟩ := Fin.ext (by simp only; omega)
        subst this
        exact .inr ⟨rfl, le_refl _⟩
    · refine ⟨i, by omega, by simp [hlt], by simp [hlt], fun j hj => ?_⟩
      by_cases hjk : j.val ≤ k
      · exact h3 j hjk
      · have : j = ⟨k + 1, h⟩ := Fin.ext (by simp only; omega)
        subst this
        rcases lt_or_eq_of_le (not_lt.mp hlt) with h4 | h4
        · exact .inl h4
        · exact .inr ⟨h4, Fin.le_def.mpr (by simp only; omega)⟩

theorem codeWord_val (k : Fin 16) : Ideal.ofBits .f32 (codeWord k.val) = ((k.val : ℝ) : EReal) := by
  fin_cases k <;> simp [codeWord, Ideal.ofBits, Ideal.ieee, -EReal.coe_mul] <;> norm_num

/-- The code at a lane is the first winning leaf of that lane's sums. -/
theorem codes_at (d : Fin 15 → Half) (r : Fin 512) (l : Fin 128) :
    ∃ k : Fin 16, IsFirst (leaf fun i => d i (ix2 r l)) k ∧ codes (leaves d) (ix2 r l) = ((k.val : ℝ) : EReal) := by
  obtain ⟨k, -, -, h2, h3⟩ := best_at (leaves d) r l 15 (by decide)
  refine ⟨k, fun j => ?_, ?_⟩
  · simpa only [leaves_at] using h3 j (by omega)
  · rw [← codeWord_val, ← h2]
    rfl

/-! ## Node values -/

theorem pay6_at (x : Vec Ideal S1024x1024 .f32) (a : Vec Ideal S1024x256 .bf16) (r : Fin 512) (q : Fin 256) :
    k0_pay6 x a (ix2 r q) = ∑ k : Fin 1024, x (ix2 ⟨r.val, by omega⟩ k) * a (ix2 k q) := by
  pointwise [k0_pay6, k0_pay5]

theorem pay7_at (x : Vec Ideal S1024x1024 .f32) (a : Vec Ideal S1024x256 .bf16) (r : Fin 512) (q : Fin 256) :
    k0_pay7 x a (ix2 r q) = ∑ k : Fin 1024, x (ix2 ⟨512 + r.val, by omega⟩ k) * a (ix2 k q) := by
  pointwise [k0_pay7, k0_pay5]

/-- A projected value of a half-block lane: row `512 * h + r`, column `64 * v + c`. -/
def projAt (x : Vec Ideal S1024x1024 .f32) (a : Vec Ideal S1024x256 .bf16) (r : Fin 512) (l : Fin 128) (v : ℕ) (hv : v < 4) : EReal :=
  ∑ k : Fin 1024, x (ix2 ⟨l.val / 64 * 512 + r.val, by omega⟩ k) * a (ix2 k ⟨64 * v + l.val % 64, by omega⟩)

theorem split_at (x : Vec Ideal S1024x1024 .f32) (a : Vec Ideal S1024x256 .bf16) (r : Fin 512) (l : Fin 128) (v : ℕ) (hv : v < 4)
    (q : l.val < 64 → Fin 256) (q' : ¬ l.val < 64 → Fin 256) (hq : ∀ h, (q h).val = 64 * v + l.val)
    (hq' : ∀ h, (q' h).val = 64 * v + (l.val - 64)) :
    (if h : l.val < 64 then k0_pay6 x a (ix2 r (q h)) else k0_pay7 x a (ix2 r (q' h))) = projAt x a r l v hv := by
  unfold projAt
  by_cases h : l.val < 64
  · rw [dif_pos h, pay6_at]
    refine Finset.sum_congr rfl fun k _ => ?_
    have e1 : (⟨r.val, by omega⟩ : Fin 1024) = ⟨l.val / 64 * 512 + r.val, by omega⟩ := Fin.ext (by simp only; omega)
    have e2 : q h = ⟨64 * v + l.val % 64, by omega⟩ := Fin.ext (by simp only [hq h]; omega)
    rw [e1, e2]
  · rw [dif_neg h, pay7_at]
    refine Finset.sum_congr rfl fun k _ => ?_
    have e1 : (⟨512 + r.val, by omega⟩ : Fin 1024) = ⟨l.val / 64 * 512 + r.val, by omega⟩ := Fin.ext (by simp only; omega)
    have e2 : q' h = ⟨64 * v + l.val % 64, by omega⟩ := Fin.ext (by simp only [hq' h]; omega)
    rw [e1, e2]

theorem node_at (x : Vec Ideal S1024x1024 .f32) (a : Vec Ideal S1024x256 .bf16) (T : Vec Ideal S16x128 .f32)
    (i : Fin 15) (r : Fin 512) (l : Fin 128) :
    node x a T i (ix2 r l) = Ideal.tanh (projAt x a r l (lev i.val) (lev_lt _) - T (ix2 ⟨i.val, by omega⟩ l)) := by
  have key (v : ℕ) (hv : v < 4) (w : EReal) (q : l.val < 64 → Fin 256) (q' : ¬ l.val < 64 → Fin 256)
      (hq : ∀ h, (q h).val = 64 * v + l.val) (hq' : ∀ h, (q' h).val = 64 * v + (l.val - 64)) (hl : lev i.val = v) :
      Ideal.tanh ((if h : l.val < 64 then k0_pay6 x a (ix2 r (q h)) else k0_pay7 x a (ix2 r (q' h))) - w)
        = Ideal.tanh (projAt x a r l (lev i.val) (lev_lt _) - w) := by
    subst hl
    rw [split_at x a r l _ hv q q' hq hq']
  fin_cases i
  all_goals
    simp only [node]
    pointwise [k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28]
  · exact key 0 (by decide) _ _ _ (fun _ => by simp) (fun _ => by simp) rfl
  iterate 2 exact key 1 (by decide) _ _ _ (fun _ => rfl) (fun _ => rfl) rfl
  iterate 4 exact key 2 (by decide) _ _ _ (fun _ => rfl) (fun _ => rfl) rfl
  iterate 8 exact key 3 (by decide) _ _ _ (fun _ => rfl) (fun _ => rfl) rfl

/-! ## The stored rows -/

theorem hot_at (v : FVec Ideal S512x64 .bf16) (tile : Vec Ideal S64x1024 .bf16) (K : Vec Ideal S8x1024 .f32) (r : Fin 512) (q : Fin 1024) :
    hot v tile (kkRow K) (ix2 r q) = if ∑ c : Fin 64, v (ix2 r c) * tile (ix2 c q) = K (ix2 0 q) then 1 else 0 := by
  pointwise [hot, kkRow]
  split_ifs with h
  · simp only [h, decide_true]
    change (((1#32 : BitVec 32).toInt : ℝ) : EReal) = 1
    norm_num
  · simp only [h, decide_false]
    change (((0#32 : BitVec 32).toInt : ℝ) : EReal) = 0
    norm_num

/-- A stored row: the indicator of the row's codes against the table. -/
def rowAt (d : Fin 15 → Half) (tile : Vec Ideal S64x1024 .bf16) (K : Vec Ideal S8x1024 .f32) (l : Vec Ideal S1024x1024 .bf16)
    (r o : Fin 1024) : EReal :=
  ∑ q : Fin 1024, (if ∑ c : Fin 64, codes (leaves d) (ix2 ⟨r.val % 512, by omega⟩ ⟨r.val / 512 * 64 + c.val, by omega⟩) * tile (ix2 c q)
    = K (ix2 0 q) then 1 else 0) * l (ix2 o q)

theorem low_at (d : Fin 15 → Half) (tile : Vec Ideal S64x1024 .bf16) (K : Vec Ideal S8x1024 .f32) (l : Vec Ideal S1024x1024 .bf16)
    (r : Fin 512) (o : Fin 1024) : low d tile K l (ix2 r o) = rowAt d tile K l ⟨r.val, by omega⟩ o := by
  pointwise [low, k0_pay1]
  simp only [hot_at]
  pointwise []
  have e1 : (⟨r.val % 512, Nat.mod_lt _ (by decide)⟩ : Fin 512) = r := Fin.ext (by simp only; omega)
  have e2 (c : Fin 64) : (⟨r.val / 512 * 64 + c.val, by omega⟩ : Fin 128) = ⟨c.val, by omega⟩ := Fin.ext (by simp only; omega)
  simp only [rowAt, e1, e2]

theorem high_at (d : Fin 15 → Half) (tile : Vec Ideal S64x1024 .bf16) (K : Vec Ideal S8x1024 .f32) (l : Vec Ideal S1024x1024 .bf16)
    (r : Fin 512) (o : Fin 1024) : high d tile K l (ix2 r o) = rowAt d tile K l ⟨512 + r.val, by omega⟩ o := by
  pointwise [high, k0_pay1]
  simp only [hot_at]
  pointwise []
  have e1 : (⟨(512 + r.val) % 512, Nat.mod_lt _ (by decide)⟩ : Fin 512) = r := Fin.ext (by simp only; omega)
  have e2 (c : Fin 64) : (⟨(512 + r.val) / 512 * 64 + c.val, by omega⟩ : Fin 128) = ⟨64 + c.val, by omega⟩ := Fin.ext (by simp only; omega)
  simp only [rowAt, e1, e2]

theorem blockOf_at (d : Fin 15 → Half) (tile : Vec Ideal S64x1024 .bf16) (K : Vec Ideal S8x1024 .f32) (l : Vec Ideal S1024x1024 .bf16)
    (r o : Fin 1024) : blockOf d tile K l (ix2 r o) = rowAt d tile K l r o := by
  unfold blockOf
  generalize hy : ix2 r o = y
  obtain ⟨rfl, rfl⟩ : r = y 0 ∧ o = y 1 := by subst hy; exact ⟨rfl, rfl⟩
  clear hy
  canon_tiles x h
  · obtain ⟨p, q, rfl⟩ : ∃ p q, x = ix2 p q := ⟨x 0, x 1, by idx_vars x⟩
    rw [high_at]
    exact congrArg₂ (rowAt d tile K l) (Fin.ext h0.symm) (Fin.ext h1.symm)
  · obtain ⟨p, q, rfl⟩ : ∃ p q, x = ix2 p q := ⟨x 0, x 1, by idx_vars x⟩
    rw [low_at]
    exact congrArg₂ (rowAt d tile K l) (Fin.ext h0.symm) (Fin.ext h1.symm)

end Cert.Proof.Block
-- ==== Proof.Tables.lean ====
module
public import proofs.«01_k».proof.Proof.Block
public import Mathlib.Tactic.IntervalCases

@[expose] public section

set_option maxRecDepth 16384

/-!
# The three constant tables

The kernel is given three tables of constants, stored as long literals.  Each is a simple function of the entry's
position: the tree-reordering matrix, the tree-to-leaf-column matrix, and the leaf number of every leaf column.
The long literals are split by the base-128 digits of an entry's number; `table` is a function of three digits split
the same way, so that a whole literal is compared with it in one step.
-/

noncomputable section

open Idealize.ShloMosaic Idealize.ShloMosaic.TcCoe Idealize.SL.Sem

namespace Cert.Proof.Block
open Cert.KernelIdeal Cert.KernelIdeal.Gen

/-- A function given by its values at the numbers below 128, zero beyond. -/
abbrev digit (f : ℕ → BitVec 16) (x : ℕ) : BitVec 16 := match x with
  | 0 => f 0 | 1 => f 1 | 2 => f 2 | 3 => f 3 | 4 => f 4 | 5 => f 5 | 6 => f 6 | 7 => f 7 | 8 => f 8 | 9 => f 9
  | 10 => f 10 | 11 => f 11 | 12 => f 12 | 13 => f 13 | 14 => f 14 | 15 => f 15 | 16 => f 16 | 17 => f 17
  | 18 => f 18 | 19 => f 19 | 20 => f 20 | 21 => f 21 | 22 => f 22 | 23 => f 23 | 24 => f 24 | 25 => f 25
  | 26 => f 26 | 27 => f 27 | 28 => f 28 | 29 => f 29 | 30 => f 30 | 31 => f 31 | 32 => f 32 | 33 => f 33
  | 34 => f 34 | 35 => f 35 | 36 => f 36 | 37 => f 37 | 38 => f 38 | 39 => f 39 | 40 => f 40 | 41 => f 41
  | 42 => f 42 | 43 => f 43 | 44 => f 44 | 45 => f 45 | 46 => f 46 | 47 => f 47 | 48 => f 48 | 49 => f 49
  | 50 => f 50 | 51 => f 51 | 52 => f 52 | 53 => f 53 | 54 => f 54 | 55 => f 55 | 56 => f 56 | 57 => f 57
  | 58 => f 58 | 59 => f 59 | 60 => f 60 | 61 => f 61 | 62 => f 62 | 63 => f 63 | 64 => f 64 | 65 => f 65
  | 66 => f 66 | 67 => f 67 | 68 => f 68 | 69 => f 69 | 70 => f 70 | 71 => f 71 | 72 => f 72 | 73 => f 73
  | 74 => f 74 | 75 => f 75 | 76 => f 76 | 77 => f 77 | 78 => f 78 | 79 => f 79 | 80 => f 80 | 81 => f 81
  | 82 => f 82 | 83 => f 83 | 84 => f 84 | 85 => f 85 | 86 => f 86 | 87 => f 87 | 88 => f 88 | 89 => f 89
  | 90 => f 90 | 91 => f 91 | 92 => f 92 | 93 => f 93 | 94 => f 94 | 95 => f 95 | 96 => f 96 | 97 => f 97
  | 98 => f 98 | 99 => f 99 | 100 => f 100 | 101 => f 101 | 102 => f 102 | 103 => f 103 | 104 => f 104 | 105 => f 105
  | 106 => f 106 | 107 => f 107 | 108 => f 108 | 109 => f 109 | 110 => f 110 | 111 => f 111 | 112 => f 112
  | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126
  | 127 => f 127 | _ => 0

/-- One or zero, as a bf16 word. -/
def bit (b : Bool) : BitVec 16 := cond b 0x3F80#16 0#16

theorem digit_eq (f : ℕ → BitVec 16) (x : ℕ) (hx : x < 128) : digit f x = f x := by
  interval_cases x <;> rfl

/-- A table of 65536 words given by the first digits `n`, `d` and the last digit `j` of an entry's number. -/
abbrev table (f : ℕ → ℕ → ℕ → Bool) (i : ℕ) : BitVec 16 := match i / 16384 with
  | 0 => digit (fun d => digit (fun j => bit (f 0 d j)) (i % 128)) (i / 128 % 128)
  | 1 => digit (fun d => digit (fun j => bit (f 1 d j)) (i % 128)) (i / 128 % 128)
  | 2 => digit (fun d => digit (fun j => bit (f 2 d j)) (i % 128)) (i / 128 % 128)
  | 3 => digit (fun d => digit (fun j => bit (f 3 d j)) (i % 128)) (i / 128 % 128)
  | _ => 0

theorem table_eq' (f : ℕ → ℕ → ℕ → Bool) (i : ℕ) (hi : i < 65536) :
    table f i = bit (f (i / 16384) (i / 128 % 128) (i % 128)) := by
  have h : i / 16384 < 4 := by omega
  have hd : ∀ n, digit (fun d => digit (fun j => bit (f n d j)) (i % 128)) (i / 128 % 128)
      = bit (f n (i / 128 % 128) (i % 128)) := fun n => by
    rw [digit_eq _ _ (by omega), digit_eq _ _ (by omega)]
  unfold table
  generalize i / 16384 = n at *
  interval_cases n <;> exact hd _

set_option maxHeartbeats 4000000 in
theorem lit1t_table (i : ℕ) : lit1t i = table (fun n d j => Nat.beq ((n * 128 + d) / 8) ((d % 8 * 128 + j) / 16)) i := by
  exact rfl

set_option maxHeartbeats 4000000 in
theorem lit0t_table (i : ℕ) : lit0t i = table (fun n d j => Nat.beq ((n * 128 + d) / 2) (4 * (j % 64) + (d % 2 * 128 + j) / 64)) i := by
  exact rfl

theorem lit2_eq : ∀ q : Fin 1024, lit2 q = codeWord (q.val % 16) := by decide +kernel

theorem beq_decide (a b : ℕ) : Nat.beq a b = decide (a = b) := by
  rw [Bool.eq_iff_iff]
  simp [Nat.beq_eq]

/-- The tree-to-leaf-column matrix: one exactly where the column belongs to the tree. -/
theorem lit1_at (c : Fin 64) (q : Fin 1024) (h : c.val * 1024 + q.val < 65536) :
    lit1 ⟨c.val * 1024 + q.val, h⟩ = bit (decide (c.val = q.val / 16)) := by
  have e : lit1 ⟨c.val * 1024 + q.val, h⟩ = lit1t (c.val * 1024 + q.val) := rfl
  rw [e, lit1t_table, table_eq' _ _ h]
  have h1 : (c.val * 1024 + q.val) / 16384 * 128 + (c.val * 1024 + q.val) / 128 % 128 = (c.val * 1024 + q.val) / 128 := by omega
  have h2 : (c.val * 1024 + q.val) / 128 / 8 = c.val := by omega
  have h3 : (c.val * 1024 + q.val) / 128 % 128 % 8 * 128 + (c.val * 1024 + q.val) % 128 = q.val := by omega
  rw [h1, h2, h3, beq_decide]

/-- The tree-reordering matrix: one exactly where the row is the column's place in the original order. -/
theorem lit0_at (p q : Fin 256) (h : p.val * 256 + q.val < 65536) :
    lit0 ⟨p.val * 256 + q.val, h⟩ = bit (decide (p.val = 4 * (q.val % 64) + q.val / 64)) := by
  have e : lit0 ⟨p.val * 256 + q.val, h⟩ = lit0t (p.val * 256 + q.val) := rfl
  rw [e, lit0t_table, table_eq' _ _ h]
  have h1 : (p.val * 256 + q.val) / 16384 * 128 + (p.val * 256 + q.val) / 128 % 128 = (p.val * 256 + q.val) / 128 := by omega
  have h2 : (p.val * 256 + q.val) / 128 / 2 = p.val := by omega
  have h3 : (p.val * 256 + q.val) / 128 % 128 % 2 * 128 + (p.val * 256 + q.val) % 128 = q.val := by omega
  have h4 : (p.val * 256 + q.val) % 128 % 64 = q.val % 64 := by omega
  rw [h1, h2, h3, h4, beq_decide]

/-- A table word read as a number. -/
theorem ofBits_bit (p : Prop) [Decidable p] : Ideal.ofBits .bf16 (bit (decide p)) = (if p then 1 else 0 : EReal) := by
  by_cases h : p <;> simp [h, bit, Ideal.ofBits, Ideal.ieee, -EReal.coe_mul] <;> norm_num

/-- A leaf number's word read as a number. -/
theorem codeWord_real : ∀ k : Fin 16, Ideal.ofBits .f32 (codeWord k.val) = (((k.val : ℕ) : ℝ) : EReal) := by
  intro k
  fin_cases k <;> simp [codeWord, Ideal.ofBits, Ideal.ieee, -EReal.coe_mul] <;> norm_num

end Cert.Proof.Block
-- ==== Proof.Reads.lean ====
module
public import proofs.«01_k».proof.Proof.At
public import proofs.«01_k».proof.Proof.Tables
public import Idealize.ShloMosaic.Lib.Claim
public import Idealize.ShloMosaic.Lib.Pipeline.ValueKit

@[expose] public section

set_option maxRecDepth 16384

/-!
# What the kernel's windows hold

The blocks a grid point reads, as entries of the argument arrays and of the three constant tables.
-/

noncomputable section

open Idealize.ShloMosaic Idealize.ShloMosaic.TcCoe Idealize.SL.Sem

namespace Cert.Proof.Block
open Cert.KernelIdeal Cert.KernelIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-! ## The host's operands -/

theorem V_thresholds (c : Dev nD) : (V m c main_v4 : Vec Ideal S16x128 .f32)
    = (pad S16x128 ![0, 0] ![1, 0] ![0, 0]
        (concatenate S15x128 1
          [⟨S15x64, transpose S15x64 [1, 0] (shapeCast S64x15 (m ((c : Thread nD τ).loc main_arg1) : Vec Ideal S960 .f32) shapeCasts_S960_S64x15)
              transposes_S64x15_S15x64_1_0⟩,
            ⟨S15x64, transpose S15x64 [1, 0] (shapeCast S64x15 (m ((c : Thread nD τ).loc main_arg1) : Vec Ideal S960 .f32) shapeCasts_S960_S64x15)
              transposes_S64x15_S15x64_1_0⟩] concatenates_S15x64_S15x64_S15x128_d1)
        (sitofp .f32 (constantI S_ 32 0#32) : FVec Ideal S_ .f32) pads_S15x128_S16x128_010_000 h_S_ : Vec Ideal S16x128 .f32) := by
  entry_read
  rfl

theorem V_perm (c : Dev nD) : (V m c main_cst : Vec Ideal S256x256 .bf16)
    = fun i => Ideal.ofBits .bf16 (lit0 (S256x256.rowMajor i)) := by
  entry_read
  rfl

theorem V_tile (c : Dev nD) : (V m c main_cst_0 : Vec Ideal S64x1024 .bf16)
    = fun i => Ideal.ofBits .bf16 (lit1 (S64x1024.rowMajor i)) := by
  entry_read
  rfl

theorem V_leafNo (c : Dev nD) : (V m c main_v0 : Vec Ideal S8x1024 .f32)
    = broadcastInDim S8x1024 ![1] bcast_S1024_S8x1024_1 (fun i : S1024.Idx => Ideal.ofBits .f32 (lit2 (S1024.rowMajor i))) := by
  entry_read
  rfl

theorem V_table (c : Dev nD) : (V m c main_v5 : Vec Ideal S1024x1024 .f32)
    = shapeCast S1024x1024 (m ((c : Thread nD τ).loc main_arg2) : Vec Ideal S1024x64x16 .f32) shapeCasts_S1024x64x16_S1024x1024 := by
  entry_read
  rfl

/-! ## The blocks -/

theorem rows_at (c : Dev nD) (t : Fin cfg0.N) (n : Fin 4096) (r k : Fin 1024) (hn : n.val = 1024 * t.val + r.val) :
    (iblk m c 0 t : Vec Ideal S1024x1024 .f32) (ix2 r k)
      = (m ((c : Thread nD τ).loc main_arg0) : Vec Ideal S4096x1024 .f32) (ix2 n k) := by
  blk_ext [iblk, V, idx t]

theorem weights_eq (c : Dev nD) (t : Fin cfg0.N) : (iblk m c 1 t : Vec Ideal S1024x256 .f32)
    = (m ((c : Thread nD τ).loc main_arg5) : Vec Ideal S1024x256 .f32) := by
  blk_ext! [iblk, V, idx t]

theorem thresholds_eq (c : Dev nD) (t : Fin cfg0.N) : (iblk m c 2 t : Vec Ideal S16x128 .f32) = (V m c main_v4 : Vec Ideal S16x128 .f32) := by
  blk_ext! [iblk, idx t]

theorem perm_eq (c : Dev nD) (t : Fin cfg0.N) : (iblk m c 3 t : Vec Ideal S256x256 .bf16) = (V m c main_cst : Vec Ideal S256x256 .bf16) := by
  blk_ext! [iblk, idx t]

theorem tile_eq (c : Dev nD) (t : Fin cfg0.N) : (iblk m c 4 t : Vec Ideal S64x1024 .bf16) = (V m c main_cst_0 : Vec Ideal S64x1024 .bf16) := by
  blk_ext! [iblk, idx t]

theorem leafNo_eq (c : Dev nD) (t : Fin cfg0.N) : (iblk m c 5 t : Vec Ideal S8x1024 .f32) = (V m c main_v0 : Vec Ideal S8x1024 .f32) := by
  blk_ext! [iblk, idx t]

theorem table_eq (c : Dev nD) (t : Fin cfg0.N) : (iblk m c 6 t : Vec Ideal S1024x1024 .f32) = (V m c main_v5 : Vec Ideal S1024x1024 .f32) := by
  blk_ext! [iblk, idx t]

/-! ## Entries -/

theorem thresholds_at (c : Dev nD) (t : Fin cfg0.N) (i : Fin 15) (l : Fin 128) (s : Fin 960) (hs : s.val = l.val % 64 * 15 + i.val) :
    (iblk m c 2 t : Vec Ideal S16x128 .f32) (ix2 ⟨i.val, by omega⟩ l) = (m ((c : Thread nD τ).loc main_arg1) : Vec Ideal S960 .f32) (ix1 s) := by
  rw [thresholds_eq, V_thresholds]
  pointwise []
  split
  · exact congrArg _ (congrArg ix1 (Fin.ext (by show l.val * 15 + i.val = s.val; omega)))
  · exact congrArg _ (congrArg ix1 (Fin.ext (by show (l.val - 64) * 15 + i.val = s.val; omega)))

theorem leafNo_at (c : Dev nD) (t : Fin cfg0.N) (q : Fin 1024) :
    (iblk m c 5 t : Vec Ideal S8x1024 .f32) (ix2 0 q) = (((q.val % 16 : ℕ) : ℝ) : EReal) := by
  rw [leafNo_eq, V_leafNo]
  pointwise []
  rw [show S1024.rowMajor (ix1 q) = q from Fin.ext (rowMajor_val1 _), lit2_eq]
  exact codeWord_real ⟨q.val % 16, by omega⟩

theorem table_at (c : Dev nD) (t : Fin cfg0.N) (o q : Fin 1024) :
    (iblk m c 6 t : Vec Ideal S1024x1024 .f32) (ix2 o q)
      = (m ((c : Thread nD τ).loc main_arg2) : Vec Ideal S1024x64x16 .f32) (ix3 o ⟨q.val / 16, by omega⟩ ⟨q.val % 16, by omega⟩) := by
  rw [table_eq, V_table]
  pointwise []

theorem perm_at (c : Dev nD) (t : Fin cfg0.N) (p q : Fin 256) :
    (iblk m c 3 t : Vec Ideal S256x256 .bf16) (ix2 p q) = (if p.val = 4 * (q.val % 64) + q.val / 64 then 1 else 0 : EReal) := by
  rw [perm_eq, V_perm]
  pointwise []
  rw [show S256x256.rowMajor (ix2 p q) = (⟨p.val * 256 + q.val, by omega⟩ : Fin 65536) from Fin.ext (rowMajor_val2 _ 256 rfl), lit0_at, ofBits_bit]

theorem tile_at (c : Dev nD) (t : Fin cfg0.N) (p : Fin 64) (q : Fin 1024) :
    (iblk m c 4 t : Vec Ideal S64x1024 .bf16) (ix2 p q) = (if p.val = q.val / 16 then 1 else 0 : EReal) := by
  rw [tile_eq, V_tile]
  pointwise []
  rw [show S64x1024.rowMajor (ix2 p q) = (⟨p.val * 1024 + q.val, by omega⟩ : Fin 65536) from Fin.ext (rowMajor_val2 _ 1024 rfl), lit1_at, ofBits_bit]

end Cert.Proof.Block
-- ==== Proof.Final.lean ====
module
public import proofs.«01_k».proof.Proof.Reads
public import proofs.«01_k».proof.Proof.Forest
public import proofs.«01_k».proof.Proof.Gen.KernelIdeal.Value

@[expose] public section

set_option maxRecDepth 16384

/-!
# What the kernel leaves in its result array

The two tables carried from the first grid point, entry by entry, and then every entry of the result: the forest's answer.
-/

noncomputable section

open Idealize.ShloMosaic Idealize.ShloMosaic.TcCoe Idealize.SL.Sem

namespace Cert.Proof.Block
open Cert.KernelIdeal Cert.KernelIdeal.Gen
open Cert.Proof.Tree

variable (m : (ℓ : Loc nD τ sig) → Buf (Elt Ideal) ℓ)

/-! ## The argument arrays, as plain families -/

abbrev argI (c : Dev nD) (n : Fin 4096) (k : Fin 1024) : EReal := (m ((c : Thread nD τ).loc main_arg0) : Vec Ideal S4096x1024 .f32) (ix2 n k)
abbrev argA (c : Dev nD) (k : Fin 1024) (j : Fin 256) : EReal := (m ((c : Thread nD τ).loc main_arg5) : Vec Ideal S1024x256 .f32) (ix2 k j)
abbrev argT (c : Dev nD) (s : Fin 960) : EReal := (m ((c : Thread nD τ).loc main_arg1) : Vec Ideal S960 .f32) (ix1 s)
abbrev argL (c : Dev nD) (o : Fin 1024) (g : Fin 64) (k : Fin 16) : EReal :=
  (m ((c : Thread nD τ).loc main_arg2) : Vec Ideal S1024x64x16 .f32) (ix3 o g k)

/-! ## The carried tables -/

theorem reordered_at (c : Dev nD) (t : Fin cfg0.N) (k : Fin 1024) (j : Fin 256) :
    (k0_pay3 (iblk m c 1 t) (iblk m c 3 t) : Vec Ideal S1024x256 .bf16) (ix2 k j)
      = argA m c k ⟨4 * (j.val % 64) + j.val / 64, by omega⟩ := by
  pointwise [k0_pay3]
  rw [weights_eq, Finset.sum_eq_single (⟨4 * (j.val % 64) + j.val / 64, by omega⟩ : Fin 256)]
  · rw [perm_at, if_pos rfl]
    exact mul_one _
  · intro p _ hp
    rw [perm_at, if_neg (fun e => hp (Fin.ext e))]
    exact mul_zero _
  · exact fun h => absurd (Finset.mem_univ _) h

theorem flat_at (c : Dev nD) (t : Fin cfg0.N) (o q : Fin 1024) :
    (k0_pay4 (iblk m c 6 t) : Vec Ideal S1024x1024 .bf16) (ix2 o q)
      = argL m c o ⟨q.val / 16, by omega⟩ ⟨q.val % 16, by omega⟩ := by
  pointwise [k0_pay4]
  exact table_at m c t o q

theorem carried_at (c : Dev nD) : ∀ (n : ℕ) (t : Fin cfg0.N), t.val = n →
    (∀ k j, proj m c t (ix2 k j) = argA m c k ⟨4 * (j.val % 64) + j.val / 64, by omega⟩)
      ∧ ∀ o q, tab m c t (ix2 o q) = argL m c o ⟨q.val / 16, by omega⟩ ⟨q.val % 16, by omega⟩ := by
  intro n
  induction n with
  | zero =>
    intro t ht
    have h0 : t.val % 4 = 0 := by omega
    rw [proj_A m c t h0, tab_A m c t h0]
    exact ⟨reordered_at m c t, flat_at m c t⟩
  | succ n ih =>
    intro t ht
    have hN : cfg0.N = 4 := rfl
    have h0 : ¬ t.val % 4 = 0 := by have := t.isLt; omega
    have hs := ih ⟨n, by have := t.isLt; omega⟩ rfl
    rw [proj_B m c t h0 ⟨n, by have := t.isLt; omega⟩ (by show n = _; omega), tab_B m c t h0 ⟨n, by have := t.isLt; omega⟩ (by show n = _; omega)]
    exact hs

/-- Every point's block is the same function of its rows and of tables with the same entries. -/
theorem out_eq (c : Dev nD) (t : Fin cfg0.N) : ∃ (P : Vec Ideal S1024x256 .bf16) (Q : Vec Ideal S1024x1024 .bf16),
    (∀ k j, P (ix2 k j) = argA m c k ⟨4 * (j.val % 64) + j.val / 64, by omega⟩)
      ∧ (∀ o q, Q (ix2 o q) = argL m c o ⟨q.val / 16, by omega⟩ ⟨q.val % 16, by omega⟩)
      ∧ (outsAt0 m c t.val t.isLt).1 = blockOf (node (iblk m c 0 t) P (iblk m c 2 t)) (iblk m c 4 t) (iblk m c 5 t) Q := by
  have hN : cfg0.N = 4 := rfl
  by_cases h0 : t.val % 4 = 0
  · exact ⟨_, _, reordered_at m c t, flat_at m c t, out_A m c t h0⟩
  · have hs := carried_at m c (t.val - 1) ⟨t.val - 1, by have := t.isLt; omega⟩ rfl
    exact ⟨_, _, hs.1, hs.2, out_B m c t h0 _ rfl⟩

/-! ## One entry of a block -/

theorem node_eq (c : Dev nD) (t : Fin cfg0.N) (P : Vec Ideal S1024x256 .bf16)
    (hP : ∀ k j, P (ix2 k j) = argA m c k ⟨4 * (j.val % 64) + j.val / 64, by omega⟩)
    (r : Fin 1024) (n : Fin 4096) (hn : n.val = 1024 * t.val + r.val) (g : Fin 64) (i : Fin 15) :
    node (iblk m c 0 t) P (iblk m c 2 t) i (ix2 ⟨r.val % 512, by omega⟩ ⟨r.val / 512 * 64 + g.val, by omega⟩)
      = nodeVal (argI m c n) (argA m c) (argT m c) g i := by
  rw [node_at, thresholds_at m c t i _ ⟨15 * g.val + i.val, by omega⟩ (by show 15 * g.val + i.val = (r.val / 512 * 64 + g.val) % 64 * 15 + i.val; omega)]
  unfold nodeVal projAt
  have hl := lev_lt i.val
  congr 2
  refine Finset.sum_congr rfl fun k _ => ?_
  rw [rows_at m c t n _ k (by show _ = 1024 * t.val + ((r.val / 512 * 64 + g.val) / 64 * 512 + r.val % 512); omega), hP]
  refine congrArg₂ (· * ·) rfl (congrArg (argA m c k) (Fin.ext ?_))
  show 4 * ((64 * lev i.val + (r.val / 512 * 64 + g.val) % 64) % 64) + (64 * lev i.val + (r.val / 512 * 64 + g.val) % 64) / 64 = 4 * g.val + lev i.val
  omega

theorem rowAt_eq (c : Dev nD) (t : Fin cfg0.N) (P : Vec Ideal S1024x256 .bf16) (Q : Vec Ideal S1024x1024 .bf16)
    (hP : ∀ k j, P (ix2 k j) = argA m c k ⟨4 * (j.val % 64) + j.val / 64, by omega⟩)
    (hQ : ∀ o q, Q (ix2 o q) = argL m c o ⟨q.val / 16, by omega⟩ ⟨q.val % 16, by omega⟩)
    (r o : Fin 1024) (n : Fin 4096) (hn : n.val = 1024 * t.val + r.val) :
    rowAt (node (iblk m c 0 t) P (iblk m c 2 t)) (iblk m c 4 t) (iblk m c 5 t) Q r o
      = answer (argI m c n) (argA m c) (argT m c) (argL m c o) := by
  have hcode (g : Fin 64) : codes (leaves (node (iblk m c 0 t) P (iblk m c 2 t))) (ix2 ⟨r.val % 512, by omega⟩ ⟨r.val / 512 * 64 + g.val, by omega⟩)
      = (((pick (leaf (nodeVal (argI m c n) (argA m c) (argT m c) g))).val : ℝ) : EReal) := by
    obtain ⟨k, hk, he⟩ := codes_at (node (iblk m c 0 t) P (iblk m c 2 t)) ⟨r.val % 512, by omega⟩ ⟨r.val / 512 * 64 + g.val, by omega⟩
    simp only [node_eq m c t P hP r n hn g] at hk
    rw [he, pick_eq hk]
  unfold rowAt answer
  have hsel (q : Fin 1024) : (∑ g : Fin 64, codes (leaves (node (iblk m c 0 t) P (iblk m c 2 t)))
        (ix2 ⟨r.val % 512, by omega⟩ ⟨r.val / 512 * 64 + g.val, by omega⟩) * (iblk m c 4 t : Vec Ideal S64x1024 .bf16) (ix2 g q) : EReal)
      = (((pick (leaf (nodeVal (argI m c n) (argA m c) (argT m c) ⟨q.val / 16, by omega⟩))).val : ℝ) : EReal) := by
    rw [Finset.sum_eq_single (⟨q.val / 16, by omega⟩ : Fin 64)]
    · rw [tile_at, if_pos rfl, hcode]
      exact mul_one _
    · intro g _ hg
      rw [tile_at, if_neg (fun e => hg (Fin.ext e))]
      exact mul_zero _
    · exact fun h => absurd (Finset.mem_univ _) h
  simp only [hsel, leafNo_at, hQ]
  rw [← (finProdFinEquiv (m := 64) (n := 16)).sum_comp, Fintype.sum_prod_type]
  refine Finset.sum_congr rfl fun g _ => ?_
  have e (k : Fin 16) : (finProdFinEquiv (g, k) : Fin 1024) = ⟨16 * g.val + k.val, by omega⟩ :=
    Fin.ext (show k.val + 16 * g.val = 16 * g.val + k.val from add_comm _ _)
  have e1 (k : Fin 16) : (16 * g.val + k.val) / 16 = g.val := by omega
  have e2 (k : Fin 16) : (16 * g.val + k.val) % 16 = k.val := by omega
  rw [Finset.sum_eq_single (pick (leaf (nodeVal (argI m c n) (argA m c) (argT m c) g)))]
  · rw [e]
    simp only [e1, e2, if_true, one_mul]
  · intro k _ hk
    rw [e]
    simp only [e1, e2]
    rw [if_neg, zero_mul]
    intro h
    apply hk
    apply Fin.ext
    exact_mod_cast (EReal.coe_injective h).symm
  · exact fun h => absurd (Finset.mem_univ _) h

theorem out_at (c : Dev nD) (t : Fin cfg0.N) (r o : Fin 1024) (n : Fin 4096) (hn : n.val = 1024 * t.val + r.val) :
    ((outsAt0 m c t.val t.isLt).1 : Vec Ideal S1024x1024 .f32) (ix2 r o)
      = answer (argI m c n) (argA m c) (argT m c) (argL m c o) := by
  obtain ⟨P, Q, hP, hQ, h⟩ := out_eq m c t
  rw [h]
  exact (blockOf_at _ _ _ _ r o).trans (rowAt_eq m c t P Q hP hQ r o n hn)

/-! ## The array -/

/-- The result array. -/
def result (c : Dev nD) : Vec Ideal S4096x1024 .f32 := fun i =>
  answer (argI m c ⟨(i 0).val, (i 0).isLt⟩) (argA m c) (argT m c) (argL m c ⟨(i 1).val, (i 1).isLt⟩)

theorem final_eq (c : Dev nD) : (Cert.KernelIdeal.Value.G7 m c : Vec Ideal S4096x1024 .f32) = result m c := by
  rw [← Cert.KernelIdeal.Value.final7 m c]
  refine (dats m 0 c).arrAt_eq_of_covers 7 _ (by decide +kernel) fun t _ y => ?_
  blk_simp
  rw [after0_7]
  obtain ⟨r, o, rfl⟩ : ∃ r o, y = ix2 r o := ⟨y 0, y 1, by idx_vars y⟩
  have ht : t.val < 4 := t.isLt
  refine (out_at m c t r o ⟨1024 * t.val + r.val, by omega⟩ rfl).trans ?_
  have h0 : ((win0_7.blk t).view.emb (ix2 r o) 0).val = 1024 * t.val + r.val := by
    blk_simp [idx t]
    omega
  have h1 : ((win0_7.blk t).view.emb (ix2 r o) 1).val = o.val := by
    blk_simp [idx t]
  unfold result
  congr 1
  · exact congrArg (argI m c) (Fin.ext h0.symm)
  · exact congrArg (argL m c) (Fin.ext h1.symm)

end Cert.Proof.Block
-- ==== Proof.Pre.lean ====
module
public import proofs.«01_k».proof.Pre_tree_matrices
public import proofs.«01_k».proof.Proof.Tree
public import Idealize.ShloMosaic.Lib.Pointwise
public import Idealize.ShloMosaic.Lib.IdealHost
public import Idealize.ShloMosaic.Lib.ReduceAll

@[expose] public section

set_option maxRecDepth 16384

/-!
# What the precondition says

The precondition compares the two matrices with closed forms computed by integer arithmetic on the row and column
numbers.  Here it is read back: the selector matrix picks, for every node, the column of its tree and level; the bit
matrix holds the signs of the ways to the leaves.
-/

noncomputable section

open Idealize.ShloMosaic

namespace Cert.Proof.Pre
open Cert.Pre_tree_matrices
open Cert.Pre_tree_matrices.Facts
open Cert.Proof.Tree

variable [Facts]

/-! ## The integer arithmetic of the closed forms -/

theorem div16 : ∀ q : Fin 1024, IntOp.divsi .host (BitVec.ofNat 32 q.val) 16#32 = BitVec.ofNat 32 (q.val / 16) := by decide +kernel
theorem rem16 : ∀ q : Fin 1024, IntOp.remsi .host (BitVec.ofNat 32 q.val) 16#32 = BitVec.ofNat 32 (q.val % 16) := by decide +kernel
theorem div15 : ∀ r : Fin 960, IntOp.divsi .host (BitVec.ofNat 32 r.val) 15#32 = BitVec.ofNat 32 (r.val / 15) := by decide +kernel
theorem rem15 : ∀ r : Fin 960, IntOp.remsi .host (BitVec.ofNat 32 r.val) 15#32 = BitVec.ofNat 32 (r.val % 15) := by decide +kernel

/-- The level of a node, counted by three comparisons. -/
def levelWord (w : BitVec 32) : BitVec 32 :=
  IntOp.addi (IntOp.addi (BitVec.setWidth 32 (IntOp.cmpi .sge w 1#32)) (BitVec.setWidth 32 (IntOp.cmpi .sge w 3#32)))
    (BitVec.setWidth 32 (IntOp.cmpi .sge w 7#32))

theorem level_word : ∀ i : Fin 15, levelWord (BitVec.ofNat 32 i.val) = BitVec.ofNat 32 (lev i.val) := by decide +kernel

theorem column_word : ∀ (c : Fin 64) (i : Fin 15),
    IntOp.addi (IntOp.muli (BitVec.ofNat 32 c.val) 4#32) (BitVec.ofNat 32 (lev i.val)) = BitVec.ofNat 32 (4 * c.val + lev i.val) := by
  decide +kernel

theorem path_word : ∀ (k : Fin 16) (i : Fin 15),
    IntOp.cmpi .eq (IntOp.addi (BitVec.ofNat 32 i.val) 1#32)
      (IntOp.shrsi .host (IntOp.addi (BitVec.ofNat 32 k.val) 16#32) (IntOp.subi 4#32 (BitVec.ofNat 32 (lev i.val))))
      = BitVec.ofBool (decide (onPath k.val i.val)) := by
  decide +kernel

theorem up_word : ∀ (k : Fin 16) (i : Fin 15),
    IntOp.cmpi .eq (IntOp.andi
      (IntOp.shrsi .host (IntOp.addi (BitVec.ofNat 32 k.val) 16#32) (IntOp.subi 3#32 (BitVec.ofNat 32 (lev i.val)))) 1#32) 1#32
      = BitVec.ofBool (decide (goesUp k.val i.val)) := by
  decide +kernel

theorem eq_word (a b : ℕ) (ha : a < 1024) (hb : b < 1024) :
    IntOp.cmpi .eq (BitVec.ofNat 32 a) (BitVec.ofNat 32 b) = BitVec.ofBool (decide (a = b)) := by
  have h : BitVec.ofNat 32 a = BitVec.ofNat 32 b ↔ a = b := by
    rw [← BitVec.toNat_inj, BitVec.toNat_ofNat, BitVec.toNat_ofNat]
    omega
  change BitVec.ofBool (BitVec.ofNat 32 a == BitVec.ofNat 32 b) = _
  rw [beq_eq_decide, decide_eq_decide.2 h]

theorem select_ofBool (p : Prop) [Decidable p] (u v : EReal) : Scalar.select (BitVec.ofBool (decide p)) u v = if p then u else v := by
  by_cases h : p <;> simp [h, Scalar.select]

theorem and_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem of_ofBool {p : Prop} [Decidable p] (h : BitVec.ofBool (decide p) = 1#1) : p := by
  by_contra hp
  simp [hp] at h

theorem minus_one : Ideal.ofBits .f32 0xBF800000#32 = (-1 : EReal) := by
  simp [Ideal.ofBits, Ideal.ieee, -EReal.coe_mul]
  norm_num

/-! ## The two matrices -/

section
variable (x : FVec Ideal S4096x1024 .f32) (t : FVec Ideal S960 .f32) (l : FVec Ideal S1024x64x16 .f32) (s : FVec Ideal S960x256 .f32)
  (b : FVec Ideal S1024x960 .f32) (a : FVec Ideal S1024x256 .f32) (h : ∀ j, fn x t l s b a j = 1#1)
include h

theorem selector_at (r : Fin 960) (q : Fin 256) :
    s (ix2 r q) = (if q.val = 4 * (r.val / 15) + lev (r.val % 15) then 1 else 0 : EReal) := by
  have : Subsingleton S_.Idx := ⟨fun p q => funext fun k => k.elim0⟩
  have h := h fun k => k.elim0
  unfold fn fn_part1 fn_part2 fn_part3 fn_part4 at h
  have g := Host.reduce_andi_all _ _ _ _ _ (IntOp.andi_eq_one.1 h).1 (ix2 r q)
  clear h
  revert g
  pointwise [fn_where, id]
  have hl := lev_lt (r.val % 15)
  rw [rem15, div15]
  change BitVec.ofBool (decide (s (ix2 r q) = Scalar.select (IntOp.cmpi .eq (BitVec.ofNat 32 q.val)
    (IntOp.addi (IntOp.muli (BitVec.ofNat 32 (r.val / 15)) 4#32) (levelWord (BitVec.ofNat 32 (r.val % 15))))) _ _)) = 1#1 → _
  rw [level_word ⟨r.val % 15, by omega⟩, column_word ⟨r.val / 15, by omega⟩ ⟨r.val % 15, by omega⟩, eq_word _ _ (by omega) (by simp only; omega),
    select_ofBool]
  exact of_ofBool

theorem bits_at (q : Fin 1024) (r : Fin 960) :
    b (ix2 q r) = (if q.val / 16 = r.val / 15 then coef (q.val % 16) (r.val % 15) else 0 : EReal) := by
  have : Subsingleton S_.Idx := ⟨fun p q => funext fun k => k.elim0⟩
  have h := h fun k => k.elim0
  unfold fn fn_part1 fn_part2 fn_part3 fn_part4 at h
  have g := Host.reduce_andi_all _ _ _ _ _ (IntOp.andi_eq_one.1 h).2 (ix2 q r)
  clear h
  revert g
  pointwise [fn_where_0, fn_where_1, id]
  rw [rem15, div15, rem16, div16]
  generalize hv : BitVec.ofNat 32 (r.val % 15) = v
  change BitVec.ofBool (decide (b (ix2 q r) = Scalar.select (IntOp.andi (IntOp.cmpi .eq (BitVec.ofNat 32 (q.val / 16)) (BitVec.ofNat 32 (r.val / 15)))
      (IntOp.cmpi .eq (IntOp.addi v 1#32)
        (IntOp.shrsi .host (IntOp.addi (BitVec.ofNat 32 (q.val % 16)) 16#32) (IntOp.subi 4#32 (levelWord v)))))
    (Scalar.select (IntOp.cmpi .eq (IntOp.andi
      (IntOp.shrsi .host (IntOp.addi (BitVec.ofNat 32 (q.val % 16)) 16#32) (IntOp.subi 3#32 (levelWord v))) 1#32) 1#32) 1 (Ideal.ofBits .f32 0xBF800000#32))
    0)) = 1#1 → _
  subst hv
  rw [level_word ⟨r.val % 15, by omega⟩, path_word ⟨q.val % 16, by omega⟩ ⟨r.val % 15, by omega⟩, up_word ⟨q.val % 16, by omega⟩ ⟨r.val % 15, by omega⟩,
    eq_word _ _ (by omega) (by omega), and_ofBool, select_ofBool, select_ofBool, minus_one]
  intro g
  rw [of_ofBool g]
  unfold coef
  split_ifs <;> first | rfl | (exfalso; tauto)

end

end Cert.Proof.Pre
-- ==== Proof.lean ====
/- The five claims put together: the frames, and the equality of kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_tree_matrices
public import proofs.«01_k».proof.Proof.RefRun
public import proofs.«01_k».proof.Proof.RefAt
public import proofs.«01_k».proof.Proof.Final
public import proofs.«01_k».proof.Proof.Pre
public import Idealize.ShloMosaic.Adequacy
public import Idealize.ShloMosaic.Init

@[expose] public section

noncomputable section

namespace Cert.Proof

open Idealize.ShloMosaic Idealize.SL.Sem

/-- The reference's array is the kernel's, where the two matrices are the trees' matrices. -/
theorem ref_eq (m : (ℓ : Loc Cert.KernelIdeal.nD Cert.KernelIdeal.τ Cert.KernelIdeal.sig) → Buf (Elt Ideal) ℓ) (c : Dev Cert.KernelIdeal.nD)
    (h : Cert.Pre_tree_matrices.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) = fun _ => 1#1) :
    Ref.refOut (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) = Block.result m c := by
  funext i
  have e : i = ix2 (⟨(i 0).val, (i 0).isLt⟩ : Fin 4096) (⟨(i 1).val, (i 1).isLt⟩ : Fin 1024) := by
    funext k
    match k with
    | 0 => rfl
    | 1 => rfl
  refine (congrArg _ e).trans ?_
  exact Ref.refOut_at _ _ _ _ _ _ (Pre.selector_at _ _ _ _ _ _ (congrFun h)) (Pre.bits_at _ _ _ _ _ _ (congrFun h)) _ _

theorem reference_frame : Cert.quiescent_ReferenceIdeal := fun m g _ =>
  (θ_run _ _ _).mono (fun _ h => ⟨fun c => (h.1 c).2, h.2⟩) (Ref.run m g)

theorem algebraic : Cert.algebraic_KernelIdeal_ReferenceIdeal_pre_tree_matrices := by
  intro m g m' g' hp ha
  refine ⟨fun c => Block.result m c, ?_, ?_⟩
  · exact (θ_run _ _ _).mono (fun _ h c => ⟨(h c).1.trans (Block.final_eq m c), (h c).2⟩) (Cert.KernelIdeal.Value.run m g)
  · refine (θ_run _ _ _).mono (fun _ h c => ⟨(h.1 c).1.trans ?_, (h.1 c).2⟩) (Ref.run m' g')
    obtain ⟨h0, h1, h2, h3, h4, h5⟩ := ha c
    rw [h0, h1, h2, h3, h4, h5]
    exact ref_eq m c (hp c)

theorem claim : Cert.Claim :=
  ⟨Cert.Kernel.Gen.facts, Cert.KernelIdeal.Gen.facts, Cert.ReferenceIdeal.Gen.facts, Cert.Pre_tree_matrices.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
